-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_consecutive_linear [hPre_consecutive_linear : Cert.Pre_consecutive_linear.Facts] (m : (ℓ : Loc Cert.KernelIdeal.nD Cert.KernelIdeal.τ Cert.KernelIdeal.sig) → Buf (Elt Ideal) ℓ) : Prop :=
  ∀ c : Dev Cert.KernelIdeal.nD,
    (Cert.Pre_consecutive_linear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_one_per_bin [hPre_one_per_bin : Cert.Pre_one_per_bin.Facts] (m : (ℓ : Loc Cert.KernelIdeal.nD Cert.KernelIdeal.τ Cert.KernelIdeal.sig) → Buf (Elt Ideal) ℓ) : Prop :=
  ∀ c : Dev Cert.KernelIdeal.nD,
    (Cert.Pre_one_per_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_per_bin [hPre_one_per_bin : Cert.Pre_one_per_bin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_per_bin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_BinnedIdeal (m : (ℓ : Loc Cert.BinnedIdeal.nD Cert.BinnedIdeal.τ Cert.BinnedIdeal.sig) → Buf (Elt Ideal) ℓ) : Prop :=
  True

def Pre_BinnedIdeal_consecutive_linear [hPre_consecutive_linear : Cert.Pre_consecutive_linear.Facts] (m : (ℓ : Loc Cert.BinnedIdeal.nD Cert.BinnedIdeal.τ Cert.BinnedIdeal.sig) → Buf (Elt Ideal) ℓ) : Prop :=
  ∀ c : Dev Cert.BinnedIdeal.nD,
    (Cert.Pre_consecutive_linear.fn (F := Ideal) (m ((c.tc : Thread Cert.BinnedIdeal.nD Cert.BinnedIdeal.τ).loc Cert.BinnedIdeal.main_arg0)) (m ((c.tc : Thread Cert.BinnedIdeal.nD Cert.BinnedIdeal.τ).loc Cert.BinnedIdeal.main_arg1)) (m ((c.tc : Thread Cert.BinnedIdeal.nD Cert.BinnedIdeal.τ).loc Cert.BinnedIdeal.main_arg2)) (m ((c.tc : Thread Cert.BinnedIdeal.nD Cert.BinnedIdeal.τ).loc Cert.BinnedIdeal.main_arg3)) (m ((c.tc : Thread Cert.BinnedIdeal.nD Cert.BinnedIdeal.τ).loc Cert.BinnedIdeal.main_arg4)) (m ((c.tc : Thread Cert.BinnedIdeal.nD Cert.BinnedIdeal.τ).loc Cert.BinnedIdeal.main_arg5)) (m ((c.tc : Thread Cert.BinnedIdeal.nD Cert.BinnedIdeal.τ).loc Cert.BinnedIdeal.main_arg6)) (m ((c.tc : Thread Cert.BinnedIdeal.nD Cert.BinnedIdeal.τ).loc Cert.BinnedIdeal.main_arg7)) (m ((c.tc : Thread Cert.BinnedIdeal.nD Cert.BinnedIdeal.τ).loc Cert.BinnedIdeal.main_arg8))) = (fun _ => 1#1)

def Pre_Reference (m : (ℓ : Loc Cert.Reference.nD Cert.Reference.τ Cert.Reference.sig) → Buf (Elt Bits) ℓ) : Prop :=
  True

def Pre_Binned (m : (ℓ : Loc Cert.Binned.nD Cert.Binned.τ Cert.Binned.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_consecutive_linear [hKernelIdeal : Cert.KernelIdeal.Facts] [hPre_consecutive_linear : Cert.Pre_consecutive_linear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_consecutive_linear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_one_per_bin [hKernelIdeal : Cert.KernelIdeal.Facts] [hPre_one_per_bin : Cert.Pre_one_per_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_per_bin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_one_per_bin [hReferenceIdeal : Cert.ReferenceIdeal.Facts] [hPre_one_per_bin : Cert.Pre_one_per_bin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_per_bin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_BinnedIdeal [hBinnedIdeal : Cert.BinnedIdeal.Facts] : Prop :=
  ∀ (m : (ℓ : Loc Cert.BinnedIdeal.nD Cert.BinnedIdeal.τ Cert.BinnedIdeal.sig) → Buf (Elt Ideal) ℓ) (g : Dev Cert.BinnedIdeal.nD → PrngReg), Pre_BinnedIdeal m →
    θ_run (Cert.BinnedIdeal.defs (F := Ideal)) (onTc (τ := Cert.BinnedIdeal.τ) (Cert.BinnedIdeal.main (F := Ideal))) ⟨m, fun _ => 0, g⟩ (fun r => (∀ c : Dev Cert.BinnedIdeal.nD,
      r.2.mem ((c.tc : Thread Cert.BinnedIdeal.nD Cert.BinnedIdeal.τ).loc Cert.BinnedIdeal.main_arg0) = m ((c.tc : Thread Cert.BinnedIdeal.nD Cert.BinnedIdeal.τ).loc Cert.BinnedIdeal.main_arg0)
      ∧ r.2.mem ((c.tc : Thread Cert.BinnedIdeal.nD Cert.BinnedIdeal.τ).loc Cert.BinnedIdeal.main_arg1) = m ((c.tc : Thread Cert.BinnedIdeal.nD Cert.BinnedIdeal.τ).loc Cert.BinnedIdeal.main_arg1)
      ∧ r.2.mem ((c.tc : Thread Cert.BinnedIdeal.nD Cert.BinnedIdeal.τ).loc Cert.BinnedIdeal.main_arg2) = m ((c.tc : Thread Cert.BinnedIdeal.nD Cert.BinnedIdeal.τ).loc Cert.BinnedIdeal.main_arg2)
      ∧ r.2.mem ((c.tc : Thread Cert.BinnedIdeal.nD Cert.BinnedIdeal.τ).loc Cert.BinnedIdeal.main_arg3) = m ((c.tc : Thread Cert.BinnedIdeal.nD Cert.BinnedIdeal.τ).loc Cert.BinnedIdeal.main_arg3)
      ∧ r.2.mem ((c.tc : Thread Cert.BinnedIdeal.nD Cert.BinnedIdeal.τ).loc Cert.BinnedIdeal.main_arg4) = m ((c.tc : Thread Cert.BinnedIdeal.nD Cert.BinnedIdeal.τ).loc Cert.BinnedIdeal.main_arg4)
      ∧ r.2.mem ((c.tc : Thread Cert.BinnedIdeal.nD Cert.BinnedIdeal.τ).loc Cert.BinnedIdeal.main_arg5) = m ((c.tc : Thread Cert.BinnedIdeal.nD Cert.BinnedIdeal.τ).loc Cert.BinnedIdeal.main_arg5)
      ∧ r.2.mem ((c.tc : Thread Cert.BinnedIdeal.nD Cert.BinnedIdeal.τ).loc Cert.BinnedIdeal.main_arg6) = m ((c.tc : Thread Cert.BinnedIdeal.nD Cert.BinnedIdeal.τ).loc Cert.BinnedIdeal.main_arg6)
      ∧ r.2.mem ((c.tc : Thread Cert.BinnedIdeal.nD Cert.BinnedIdeal.τ).loc Cert.BinnedIdeal.main_arg7) = m ((c.tc : Thread Cert.BinnedIdeal.nD Cert.BinnedIdeal.τ).loc Cert.BinnedIdeal.main_arg7)
      ∧ r.2.mem ((c.tc : Thread Cert.BinnedIdeal.nD Cert.BinnedIdeal.τ).loc Cert.BinnedIdeal.main_arg8) = m ((c.tc : Thread Cert.BinnedIdeal.nD Cert.BinnedIdeal.τ).loc Cert.BinnedIdeal.main_arg8))
      ∧ r.2.sem = fun _ => 0)

def quiescent_BinnedIdeal_pre_consecutive_linear [hBinnedIdeal : Cert.BinnedIdeal.Facts] [hPre_consecutive_linear : Cert.Pre_consecutive_linear.Facts] : Prop :=
  ∀ (m : (ℓ : Loc Cert.BinnedIdeal.nD Cert.BinnedIdeal.τ Cert.BinnedIdeal.sig) → Buf (Elt Ideal) ℓ) (g : Dev Cert.BinnedIdeal.nD → PrngReg), Pre_BinnedIdeal_consecutive_linear m →
    θ_run (Cert.BinnedIdeal.defs (F := Ideal)) (onTc (τ := Cert.BinnedIdeal.τ) (Cert.BinnedIdeal.main (F := Ideal))) ⟨m, fun _ => 0, g⟩ (fun r => (∀ c : Dev Cert.BinnedIdeal.nD,
      r.2.mem ((c.tc : Thread Cert.BinnedIdeal.nD Cert.BinnedIdeal.τ).loc Cert.BinnedIdeal.main_arg0) = m ((c.tc : Thread Cert.BinnedIdeal.nD Cert.BinnedIdeal.τ).loc Cert.BinnedIdeal.main_arg0)
      ∧ r.2.mem ((c.tc : Thread Cert.BinnedIdeal.nD Cert.BinnedIdeal.τ).loc Cert.BinnedIdeal.main_arg1) = m ((c.tc : Thread Cert.BinnedIdeal.nD Cert.BinnedIdeal.τ).loc Cert.BinnedIdeal.main_arg1)
      ∧ r.2.mem ((c.tc : Thread Cert.BinnedIdeal.nD Cert.BinnedIdeal.τ).loc Cert.BinnedIdeal.main_arg2) = m ((c.tc : Thread Cert.BinnedIdeal.nD Cert.BinnedIdeal.τ).loc Cert.BinnedIdeal.main_arg2)
      ∧ r.2.mem ((c.tc : Thread Cert.BinnedIdeal.nD Cert.BinnedIdeal.τ).loc Cert.BinnedIdeal.main_arg3) = m ((c.tc : Thread Cert.BinnedIdeal.nD Cert.BinnedIdeal.τ).loc Cert.BinnedIdeal.main_arg3)
      ∧ r.2.mem ((c.tc : Thread Cert.BinnedIdeal.nD Cert.BinnedIdeal.τ).loc Cert.BinnedIdeal.main_arg4) = m ((c.tc : Thread Cert.BinnedIdeal.nD Cert.BinnedIdeal.τ).loc Cert.BinnedIdeal.main_arg4)
      ∧ r.2.mem ((c.tc : Thread Cert.BinnedIdeal.nD Cert.BinnedIdeal.τ).loc Cert.BinnedIdeal.main_arg5) = m ((c.tc : Thread Cert.BinnedIdeal.nD Cert.BinnedIdeal.τ).loc Cert.BinnedIdeal.main_arg5)
      ∧ r.2.mem ((c.tc : Thread Cert.BinnedIdeal.nD Cert.BinnedIdeal.τ).loc Cert.BinnedIdeal.main_arg6) = m ((c.tc : Thread Cert.BinnedIdeal.nD Cert.BinnedIdeal.τ).loc Cert.BinnedIdeal.main_arg6)
      ∧ r.2.mem ((c.tc : Thread Cert.BinnedIdeal.nD Cert.BinnedIdeal.τ).loc Cert.BinnedIdeal.main_arg7) = m ((c.tc : Thread Cert.BinnedIdeal.nD Cert.BinnedIdeal.τ).loc Cert.BinnedIdeal.main_arg7)
      ∧ r.2.mem ((c.tc : Thread Cert.BinnedIdeal.nD Cert.BinnedIdeal.τ).loc Cert.BinnedIdeal.main_arg8) = m ((c.tc : Thread Cert.BinnedIdeal.nD Cert.BinnedIdeal.τ).loc Cert.BinnedIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_Binned [hBinned : Cert.Binned.Facts] : Prop :=
  ∀ (m : (ℓ : Loc Cert.Binned.nD Cert.Binned.τ Cert.Binned.sig) → Buf (Elt Bits) ℓ) (g : Dev Cert.Binned.nD → PrngReg), Pre_Binned m →
    θ_run (Cert.Binned.defs (F := Bits)) (onTc (τ := Cert.Binned.τ) (Cert.Binned.main (F := Bits))) ⟨m, fun _ => 0, g⟩ (fun r => (∀ c : Dev Cert.Binned.nD,
      r.2.mem ((c.tc : Thread Cert.Binned.nD Cert.Binned.τ).loc Cert.Binned.main_arg0) = m ((c.tc : Thread Cert.Binned.nD Cert.Binned.τ).loc Cert.Binned.main_arg0)
      ∧ r.2.mem ((c.tc : Thread Cert.Binned.nD Cert.Binned.τ).loc Cert.Binned.main_arg1) = m ((c.tc : Thread Cert.Binned.nD Cert.Binned.τ).loc Cert.Binned.main_arg1)
      ∧ r.2.mem ((c.tc : Thread Cert.Binned.nD Cert.Binned.τ).loc Cert.Binned.main_arg2) = m ((c.tc : Thread Cert.Binned.nD Cert.Binned.τ).loc Cert.Binned.main_arg2)
      ∧ r.2.mem ((c.tc : Thread Cert.Binned.nD Cert.Binned.τ).loc Cert.Binned.main_arg3) = m ((c.tc : Thread Cert.Binned.nD Cert.Binned.τ).loc Cert.Binned.main_arg3)
      ∧ r.2.mem ((c.tc : Thread Cert.Binned.nD Cert.Binned.τ).loc Cert.Binned.main_arg4) = m ((c.tc : Thread Cert.Binned.nD Cert.Binned.τ).loc Cert.Binned.main_arg4)
      ∧ r.2.mem ((c.tc : Thread Cert.Binned.nD Cert.Binned.τ).loc Cert.Binned.main_arg5) = m ((c.tc : Thread Cert.Binned.nD Cert.Binned.τ).loc Cert.Binned.main_arg5)
      ∧ r.2.mem ((c.tc : Thread Cert.Binned.nD Cert.Binned.τ).loc Cert.Binned.main_arg6) = m ((c.tc : Thread Cert.Binned.nD Cert.Binned.τ).loc Cert.Binned.main_arg6)
      ∧ r.2.mem ((c.tc : Thread Cert.Binned.nD Cert.Binned.τ).loc Cert.Binned.main_arg7) = m ((c.tc : Thread Cert.Binned.nD Cert.Binned.τ).loc Cert.Binned.main_arg7)
      ∧ r.2.mem ((c.tc : Thread Cert.Binned.nD Cert.Binned.τ).loc Cert.Binned.main_arg8) = m ((c.tc : Thread Cert.Binned.nD Cert.Binned.τ).loc Cert.Binned.main_arg8))
      ∧ r.2.sem = fun _ => 0)

def preserves_Kernel_KernelIdeal : Prop :=
  IdealRules.named_const.Statement Cert.KernelIdeal.κ "inv_last" .f32 0x39800801#32 ((1 / 4095 : ℝ) : EReal)
  ∧ IdealRules.named_const.Statement Cert.KernelIdeal.κ "kappa" .f32 0x3B03126F#32 ((1 / 500 : ℝ) : EReal)
  ∧ IdealRules.named_const.Statement Cert.KernelIdeal.κ "half_kappa" .f32 0x3A83126F#32 ((1 / 1000 : ℝ) : EReal)

def preserves_Reference_ReferenceIdeal : Prop :=
  True

def preserves_Binned_BinnedIdeal : Prop :=
  True

def algebraic_KernelIdeal_BinnedIdeal_pre_consecutive_linear [hKernelIdeal : Cert.KernelIdeal.Facts] [hBinnedIdeal : Cert.BinnedIdeal.Facts] [hPre_consecutive_linear : Cert.Pre_consecutive_linear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BinnedIdeal.nD Cert.BinnedIdeal.τ Cert.BinnedIdeal.sig) → Buf (Elt Ideal) ℓ) (g' : Dev Cert.BinnedIdeal.nD → PrngReg), Pre_KernelIdeal_consecutive_linear m →
    (∀ c : Dev Cert.KernelIdeal.nD,
      m' ((c.tc : Thread Cert.BinnedIdeal.nD Cert.BinnedIdeal.τ).loc Cert.BinnedIdeal.main_arg0) = m ((c.tc : Thread Cert.KernelIdeal.nD Cert.KernelIdeal.τ).loc Cert.KernelIdeal.main_arg0)
      ∧ m' ((c.tc : Thread Cert.BinnedIdeal.nD Cert.BinnedIdeal.τ).loc Cert.BinnedIdeal.main_arg1) = m ((c.tc : Thread Cert.KernelIdeal.nD Cert.KernelIdeal.τ).loc Cert.KernelIdeal.main_arg1)
      ∧ m' ((c.tc : Thread Cert.BinnedIdeal.nD Cert.BinnedIdeal.τ).loc Cert.BinnedIdeal.main_arg2) = m ((c.tc : Thread Cert.KernelIdeal.nD Cert.KernelIdeal.τ).loc Cert.KernelIdeal.main_arg2)
      ∧ m' ((c.tc : Thread Cert.BinnedIdeal.nD Cert.BinnedIdeal.τ).loc Cert.BinnedIdeal.main_arg3) = m ((c.tc : Thread Cert.KernelIdeal.nD Cert.KernelIdeal.τ).loc Cert.KernelIdeal.main_arg3)
      ∧ m' ((c.tc : Thread Cert.BinnedIdeal.nD Cert.BinnedIdeal.τ).loc Cert.BinnedIdeal.main_arg4) = m ((c.tc : Thread Cert.KernelIdeal.nD Cert.KernelIdeal.τ).loc Cert.KernelIdeal.main_arg4)
      ∧ m' ((c.tc : Thread Cert.BinnedIdeal.nD Cert.BinnedIdeal.τ).loc Cert.BinnedIdeal.main_arg5) = m ((c.tc : Thread Cert.KernelIdeal.nD Cert.KernelIdeal.τ).loc Cert.KernelIdeal.main_arg5)
      ∧ m' ((c.tc : Thread Cert.BinnedIdeal.nD Cert.BinnedIdeal.τ).loc Cert.BinnedIdeal.main_arg6) = m ((c.tc : Thread Cert.KernelIdeal.nD Cert.KernelIdeal.τ).loc Cert.KernelIdeal.main_arg6)
      ∧ m' ((c.tc : Thread Cert.BinnedIdeal.nD Cert.BinnedIdeal.τ).loc Cert.BinnedIdeal.main_arg7) = m ((c.tc : Thread Cert.KernelIdeal.nD Cert.KernelIdeal.τ).loc Cert.KernelIdeal.main_arg7)
      ∧ m' ((c.tc : Thread Cert.BinnedIdeal.nD Cert.BinnedIdeal.τ).loc Cert.BinnedIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.BinnedIdeal.defs (F := Ideal)) (onTc (τ := Cert.BinnedIdeal.τ) (Cert.BinnedIdeal.main (F := Ideal))) ⟨m', fun _ => 0, g'⟩ (fun r => ∀ c : Dev Cert.BinnedIdeal.nD,
          r.2.mem ((c.tc : Thread Cert.BinnedIdeal.nD Cert.BinnedIdeal.τ).loc Cert.BinnedIdeal.main_v63) = v0 c
          ∧ r.2.mem ((c.tc : Thread Cert.BinnedIdeal.nD Cert.BinnedIdeal.τ).loc Cert.BinnedIdeal.main_arg0) = m' ((c.tc : Thread Cert.BinnedIdeal.nD Cert.BinnedIdeal.τ).loc Cert.BinnedIdeal.main_arg0)
          ∧ r.2.mem ((c.tc : Thread Cert.BinnedIdeal.nD Cert.BinnedIdeal.τ).loc Cert.BinnedIdeal.main_arg1) = m' ((c.tc : Thread Cert.BinnedIdeal.nD Cert.BinnedIdeal.τ).loc Cert.BinnedIdeal.main_arg1)
          ∧ r.2.mem ((c.tc : Thread Cert.BinnedIdeal.nD Cert.BinnedIdeal.τ).loc Cert.BinnedIdeal.main_arg2) = m' ((c.tc : Thread Cert.BinnedIdeal.nD Cert.BinnedIdeal.τ).loc Cert.BinnedIdeal.main_arg2)
          ∧ r.2.mem ((c.tc : Thread Cert.BinnedIdeal.nD Cert.BinnedIdeal.τ).loc Cert.BinnedIdeal.main_arg3) = m' ((c.tc : Thread Cert.BinnedIdeal.nD Cert.BinnedIdeal.τ).loc Cert.BinnedIdeal.main_arg3)
          ∧ r.2.mem ((c.tc : Thread Cert.BinnedIdeal.nD Cert.BinnedIdeal.τ).loc Cert.BinnedIdeal.main_arg4) = m' ((c.tc : Thread Cert.BinnedIdeal.nD Cert.BinnedIdeal.τ).loc Cert.BinnedIdeal.main_arg4)
          ∧ r.2.mem ((c.tc : Thread Cert.BinnedIdeal.nD Cert.BinnedIdeal.τ).loc Cert.BinnedIdeal.main_arg5) = m' ((c.tc : Thread Cert.BinnedIdeal.nD Cert.BinnedIdeal.τ).loc Cert.BinnedIdeal.main_arg5)
          ∧ r.2.mem ((c.tc : Thread Cert.BinnedIdeal.nD Cert.BinnedIdeal.τ).loc Cert.BinnedIdeal.main_arg6) = m' ((c.tc : Thread Cert.BinnedIdeal.nD Cert.BinnedIdeal.τ).loc Cert.BinnedIdeal.main_arg6)
          ∧ r.2.mem ((c.tc : Thread Cert.BinnedIdeal.nD Cert.BinnedIdeal.τ).loc Cert.BinnedIdeal.main_arg7) = m' ((c.tc : Thread Cert.BinnedIdeal.nD Cert.BinnedIdeal.τ).loc Cert.BinnedIdeal.main_arg7)
          ∧ r.2.mem ((c.tc : Thread Cert.BinnedIdeal.nD Cert.BinnedIdeal.τ).loc Cert.BinnedIdeal.main_arg8) = m' ((c.tc : Thread Cert.BinnedIdeal.nD Cert.BinnedIdeal.τ).loc Cert.BinnedIdeal.main_arg8))

def algebraic_KernelIdeal_ReferenceIdeal_pre_one_per_bin [hKernelIdeal : Cert.KernelIdeal.Facts] [hReferenceIdeal : Cert.ReferenceIdeal.Facts] [hPre_one_per_bin : Cert.Pre_one_per_bin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_per_bin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hBinnedIdeal : Cert.BinnedIdeal.Facts) (hReference : Cert.Reference.Facts) (hBinned : Cert.Binned.Facts) (hPre_consecutive_linear : Cert.Pre_consecutive_linear.Facts) (hPre_one_per_bin : Cert.Pre_one_per_bin.Facts),
    quiescent_Kernel (hKernel := hKernel)
    ∧ quiescent_KernelIdeal (hKernelIdeal := hKernelIdeal)
    ∧ quiescent_KernelIdeal_pre_consecutive_linear (hKernelIdeal := hKernelIdeal) (hPre_consecutive_linear := hPre_consecutive_linear)
    ∧ quiescent_KernelIdeal_pre_one_per_bin (hKernelIdeal := hKernelIdeal) (hPre_one_per_bin := hPre_one_per_bin)
    ∧ quiescent_ReferenceIdeal (hReferenceIdeal := hReferenceIdeal)
    ∧ quiescent_ReferenceIdeal_pre_one_per_bin (hReferenceIdeal := hReferenceIdeal) (hPre_one_per_bin := hPre_one_per_bin)
    ∧ quiescent_BinnedIdeal (hBinnedIdeal := hBinnedIdeal)
    ∧ quiescent_BinnedIdeal_pre_consecutive_linear (hBinnedIdeal := hBinnedIdeal) (hPre_consecutive_linear := hPre_consecutive_linear)
    ∧ quiescent_Reference (hReference := hReference)
    ∧ quiescent_Binned (hBinned := hBinned)
    ∧ preserves_Kernel_KernelIdeal
    ∧ preserves_Reference_ReferenceIdeal
    ∧ preserves_Binned_BinnedIdeal
    ∧ algebraic_KernelIdeal_BinnedIdeal_pre_consecutive_linear (hKernelIdeal := hKernelIdeal) (hBinnedIdeal := hBinnedIdeal) (hPre_consecutive_linear := hPre_consecutive_linear)
    ∧ algebraic_KernelIdeal_ReferenceIdeal_pre_one_per_bin (hKernelIdeal := hKernelIdeal) (hReferenceIdeal := hReferenceIdeal) (hPre_one_per_bin := hPre_one_per_bin)
-- ==== Pre_consecutive_linear.lean ====
abbrev S4x512x16384 : Shape := ⟨3, ![4, 512, 16384]⟩
abbrev S4096 : Shape := ⟨1, ![4096]⟩
abbrev S1x4096 : Shape := ⟨2, ![1, 4096]⟩
abbrev S4x4096 : Shape := ⟨2, ![4, 4096]⟩
abbrev S4x1 : Shape := ⟨2, ![4, 1]⟩
abbrev S_ : Shape := ⟨0, ![]⟩

class Facts : Prop where
  bcast_S4096_S1x4096_1 : S4096.BroadcastsInDim S1x4096 (![1] : Fin 1 → Fin S1x4096.rank)
  concatenates_S1x4096_S1x4096_S1x4096_S1x4096_S4x4096_d0 : Shape.Concatenates [S1x4096, S1x4096, S1x4096, S1x4096] S4x4096 0
  slices_S4x4096_S4x1_0_0 : S4x4096.Slices ![0, 0] S4x1
  slices_S4x4096_S4x1_0_4095 : S4x4096.Slices ![0, 4095] S4x1
  bcast_S_S4x1 : S_.BroadcastsInDim S4x1 (![] : Fin 0 → Fin S4x1.rank)
  bcast_S4x1_S4x4096_0_1 : S4x1.BroadcastsInDim S4x4096 (![0, 1] : Fin 2 → Fin S4x4096.rank)
  bcast_S_S4x4096 : S_.BroadcastsInDim S4x4096 (![] : Fin 0 → Fin S4x4096.rank)

variable [Facts]

def fn_part1 {F : FTy → Type} [FloatOps F] (main_v4 : IVec S4x4096 32) (main_v9 : FVec F S4x4096 .f32) (main_v10 : IVec S4x4096 32) (main_v11 : IVec S4x4096 32) (main_v21 : FVec F S4x4096 .f32) (main_c : IVec S_ 32) : IVec S4x4096 1 :=
  let main_v22 : IVec S4x4096 32 := broadcastInDim S4x4096 ![] bcast_S_S4x4096 main_c
  let main_v23 : IVec S4x4096 32 := muli main_v22 main_v11
  let main_v24 : IVec S4x4096 32 := addi main_v23 main_v10
  let main_v25 : IVec S4x4096 1 := cmpi .eq main_v4 main_v24
  let main_v26 : IVec S4x4096 1 := cmpf .oeq main_v9 main_v21
  let main_v27 : IVec S4x4096 1 := andi main_v25 main_v26
  main_v27

def fn {F : FTy → Type} [FloatOps F] (main_arg0 : FVec F S4x512x16384 .f32) (main_arg1 : IVec S4096 32) (main_arg2 : IVec S4096 32) (main_arg3 : IVec S4096 32) (main_arg4 : IVec S4096 32) (main_arg5 : FVec F S4096 .f32) (main_arg6 : FVec F S4096 .f32) (main_arg7 : FVec F S4096 .f32) (main_arg8 : FVec F S4096 .f32) : IVec S4x4096 1 :=
  let main_v0 : IVec S1x4096 32 := broadcastInDim S1x4096 ![1] bcast_S4096_S1x4096_1 main_arg1
  let main_v1 : IVec S1x4096 32 := broadcastInDim S1x4096 ![1] bcast_S4096_S1x4096_1 main_arg2
  let main_v2 : IVec S1x4096 32 := broadcastInDim S1x4096 ![1] bcast_S4096_S1x4096_1 main_arg3
  let main_v3 : IVec S1x4096 32 := broadcastInDim S1x4096 ![1] bcast_S4096_S1x4096_1 main_arg4
  let main_v4 : IVec S4x4096 32 := concatenate S4x4096 0 [⟨S1x4096, main_v0⟩, ⟨S1x4096, main_v1⟩, ⟨S1x4096, main_v2⟩, ⟨S1x4096, main_v3⟩] concatenates_S1x4096_S1x4096_S1x4096_S1x4096_S4x4096_d0
  let main_v5 : FVec F S1x4096 .f32 := broadcastInDim S1x4096 ![1] bcast_S4096_S1x4096_1 main_arg5
  let main_v6 : FVec F S1x4096 .f32 := broadcastInDim S1x4096 ![1] bcast_S4096_S1x4096_1 main_arg6
  let main_v7 : FVec F S1x4096 .f32 := broadcastInDim S1x4096 ![1] bcast_S4096_S1x4096_1 main_arg7
  let main_v8 : FVec F S1x4096 .f32 := broadcastInDim S1x4096 ![1] bcast_S4096_S1x4096_1 main_arg8
  let main_v9 : FVec F S4x4096 .f32 := concatenate S4x4096 0 [⟨S1x4096, main_v5⟩, ⟨S1x4096, main_v6⟩, ⟨S1x4096, main_v7⟩, ⟨S1x4096, main_v8⟩] concatenates_S1x4096_S1x4096_S1x4096_S1x4096_S4x4096_d0
  let main_v10 : IVec S4x4096 32 := iotaInDim S4x4096 32 1
  let main_v11 : IVec S4x4096 32 := iotaInDim S4x4096 32 0
  let main_v12 : FVec F S4x1 .f32 := (extractStridedSlice S4x1 ![0, 0] · slices_S4x4096_S4x1_0_0) main_v9
  let main_v13 : FVec F S4x1 .f32 := (extractStridedSlice S4x1 ![0, 4095] · slices_S4x4096_S4x1_0_4095) main_v9
  let main_v14 : FVec F S4x4096 .f32 := sitofp .f32 main_v10
  let main_v15 : FVec F S4x1 .f32 := subf main_v13 main_v12
  let main_cst : FVec F S_ .f32 := constant S_ .f32 0x457FF000#32
  let main_v16 : FVec F S4x1 .f32 := broadcastInDim S4x1 ![] bcast_S_S4x1 main_cst
  let main_v17 : FVec F S4x1 .f32 := Host.divf main_v15 main_v16
  let main_v18 : FVec F S4x4096 .f32 := broadcastInDim S4x4096 ![0, 1] bcast_S4x1_S4x4096_0_1 main_v17
  let main_v19 : FVec F S4x4096 .f32 := mulf main_v14 main_v18
  let main_v20 : FVec F S4x4096 .f32 := broadcastInDim S4x4096 ![0, 1] bcast_S4x1_S4x4096_0_1 main_v12
  let main_v21 : FVec F S4x4096 .f32 := addf main_v20 main_v19
  let main_c : IVec S_ 32 := constantI S_ 32 4096#32
  fn_part1 (F := F) main_v4 main_v9 main_v10 main_v11 main_v21 main_c
-- ==== Pre_one_per_bin.lean ====
abbrev S4x512x16384 : Shape := ⟨3, ![4, 512, 16384]⟩
abbrev S4096 : Shape := ⟨1, ![4096]⟩
abbrev S_ : Shape := ⟨0, ![]⟩
abbrev S16384 : Shape := ⟨1, ![16384]⟩
abbrev S4x4096 : Shape := ⟨2, ![4, 4096]⟩
abbrev S4 : Shape := ⟨1, ![4]⟩
abbrev S4x1 : Shape := ⟨2, ![4, 1]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S1x4096 : Shape := ⟨2, ![1, 4096]⟩

class Facts : Prop where
  reducesTo_S4x512x16384_S16384_d0_1 : S4x512x16384.ReducesTo [0, 1] S16384
  h_S_ : 0 < S_.numel
  bcast_S_S16384 : S_.BroadcastsInDim S16384 (![] : Fin 0 → Fin S16384.rank)
  shapeCasts_S16384_S4x4096 : S16384.ShapeCasts S4x4096
  reducesTo_S4x4096_S4_d1 : S4x4096.ReducesTo [1] S4
  bcast_S4_S4x1_0 : S4.BroadcastsInDim S4x1 (![0] : Fin 1 → Fin S4x1.rank)
  bcast_S4x1_S4x4096_0_1 : S4x1.BroadcastsInDim S4x4096 (![0, 1] : Fin 2 → Fin S4x4096.rank)
  bcast_S_S4x1 : S_.BroadcastsInDim S4x1 (![] : Fin 0 → Fin S4x1.rank)
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S4096_S1x4096_1 : S4096.BroadcastsInDim S1x4096 (![1] : Fin 1 → Fin S1x4096.rank)
  concatenates_S1x4096_S1x4096_S1x4096_S1x4096_S4x4096_d0 : Shape.Concatenates [S1x4096, S1x4096, S1x4096, S1x4096] S4x4096 0
  slices_S4x4096_S4x1_0_0 : S4x4096.Slices ![0, 0] S4x1
  slices_S4x4096_S4x1_0_4095 : S4x4096.Slices ![0, 4095] S4x1
  bcast_S_S4x4096 : S_.BroadcastsInDim S4x4096 (![] : Fin 0 → Fin S4x4096.rank)

variable [Facts]

def fn_part2 {F : FTy → Type} [FloatOps F] (main_v26 : IVec S4x4096x4096 1) (main_v31 : IVec S4x4096 32) (main_v36 : FVec F S4x4096 .f32) (main_v37 : IVec S4x4096 32) (main_v38 : IVec S4x4096 32) (main_v39 : FVec F S4x1 .f32) (main_v40 : FVec F S4x1 .f32) (main_v41 : FVec F S4x4096 .f32) : IVec S4x4096x4096 1 :=
  let main_v42 : FVec F S4x1 .f32 := subf main_v40 main_v39
  let main_cst_5 : FVec F S_ .f32 := constant S_ .f32 0x457FF000#32
  let main_v43 : FVec F S4x1 .f32 := broadcastInDim S4x1 ![] bcast_S_S4x1 main_cst_5
  let main_v44 : FVec F S4x1 .f32 := Host.divf main_v42 main_v43
  let main_v45 : FVec F S4x4096 .f32 := broadcastInDim S4x4096 ![0, 1] bcast_S4x1_S4x4096_0_1 main_v44
  let main_v46 : FVec F S4x4096 .f32 := mulf main_v41 main_v45
  let main_v47 : FVec F S4x4096 .f32 := broadcastInDim S4x4096 ![0, 1] bcast_S4x1_S4x4096_0_1 main_v39
  let main_v48 : FVec F S4x4096 .f32 := addf main_v47 main_v46
  let main_c : IVec S_ 32 := constantI S_ 32 4096#32
  let main_v49 : IVec S4x4096 32 := broadcastInDim S4x4096 ![] bcast_S_S4x4096 main_c
  let main_v50 : IVec S4x4096 32 := muli main_v49 main_v38
  let main_v51 : IVec S4x4096 32 := addi main_v50 main_v37
  let main_v52 : IVec S4x4096 1 := cmpi .eq main_v31 main_v51
  let main_v53 : IVec S4x4096 1 := cmpf .oeq main_v36 main_v48
  let main_v54 : IVec S4x4096 1 := andi main_v52 main_v53
  let main_v55 : IVec S4x4096x1 1 := broadcastInDim S4x4096x1 ![0, 1] bcast_S4x4096_S4x4096x1_0_1 main_v54
  let main_v56 : IVec S4x4096x4096 1 := broadcastInDim S4x4096x4096 ![0, 1, 2] bcast_S4x4096x1_S4x4096x4096_0_1_2 main_v55
  let main_v57 : IVec S4x4096x4096 1 := andi main_v26 main_v56
  main_v57

def fn_part1 {F : FTy → Type} [FloatOps F] (main_arg1 : IVec S4096 32) (main_arg2 : IVec S4096 32) (main_arg3 : IVec S4096 32) (main_arg4 : IVec S4096 32) (main_arg5 : FVec F S4096 .f32) (main_arg6 : FVec F S4096 .f32) (main_arg7 : FVec F S4096 .f32) (main_arg8 : FVec F S4096 .f32) (main_v17 : FVec F S4x4096 .f32) : IVec S4x4096x4096 1 :=
  let main_v18 : IVec S4x4096x4096 32 := iotaInDim S4x4096x4096 32 1
  let main_v19 : IVec S4x4096x4096 32 := iotaInDim S4x4096x4096 32 2
  let main_v20 : FVec F S4x4096x1 .f32 := broadcastInDim S4x4096x1 ![0, 1] bcast_S4x4096_S4x4096x1_0_1 main_v17
  let main_v21 : FVec F S4x1x4096 .f32 := broadcastInDim S4x1x4096 ![0, 2] bcast_S4x4096_S4x1x4096_0_2 main_v17
  let main_v22 : FVec F S4x4096x4096 .f32 := broadcastInDim S4x4096x4096 ![0, 1, 2] bcast_S4x4096x1_S4x4096x4096_0_1_2 main_v20
  let main_v23 : FVec F S4x4096x4096 .f32 := broadcastInDim S4x4096x4096 ![0, 1, 2] bcast_S4x1x4096_S4x4096x4096_0_1_2 main_v21
  let main_v24 : IVec S4x4096x4096 1 := cmpf .une main_v22 main_v23
  let main_v25 : IVec S4x4096x4096 1 := cmpi .eq main_v18 main_v19
  let main_v26 : IVec S4x4096x4096 1 := ori main_v24 main_v25
  let main_v27 : IVec S1x4096 32 := broadcastInDim S1x4096 ![1] bcast_S4096_S1x4096_1 main_arg1
  let main_v28 : IVec S1x4096 32 := broadcastInDim S1x4096 ![1] bcast_S4096_S1x4096_1 main_arg2
  let main_v29 : IVec S1x4096 32 := broadcastInDim S1x4096 ![1] bcast_S4096_S1x4096_1 main_arg3
  let main_v30 : IVec S1x4096 32 := broadcastInDim S1x4096 ![1] bcast_S4096_S1x4096_1 main_arg4
  let main_v31 : IVec S4x4096 32 := concatenate S4x4096 0 [⟨S1x4096, main_v27⟩, ⟨S1x4096, main_v28⟩, ⟨S1x4096, main_v29⟩, ⟨S1x4096, main_v30⟩] concatenates_S1x4096_S1x4096_S1x4096_S1x4096_S4x4096_d0
  let main_v32 : FVec F S1x4096 .f32 := broadcastInDim S1x4096 ![1] bcast_S4096_S1x4096_1 main_arg5
  let main_v33 : FVec F S1x4096 .f32 := broadcastInDim S1x4096 ![1] bcast_S4096_S1x4096_1 main_arg6
  let main_v34 : FVec F S1x4096 .f32 := broadcastInDim S1x4096 ![1] bcast_S4096_S1x4096_1 main_arg7
  let main_v35 : FVec F S1x4096 .f32 := broadcastInDim S1x4096 ![1] bcast_S4096_S1x4096_1 main_arg8
  let main_v36 : FVec F S4x4096 .f32 := concatenate S4x4096 0 [⟨S1x4096, main_v32⟩, ⟨S1x4096, main_v33⟩, ⟨S1x4096, main_v34⟩, ⟨S1x4096, main_v35⟩] concatenates_S1x4096_S1x4096_S1x4096_S1x4096_S4x4096_d0
  let main_v37 : IVec S4x4096 32 := iotaInDim S4x4096 32 1
  let main_v38 : IVec S4x4096 32 := iotaInDim S4x4096 32 0
  let main_v39 : FVec F S4x1 .f32 := (extractStridedSlice S4x1 ![0, 0] · slices_S4x4096_S4x1_0_0) main_v36
  let main_v40 : FVec F S4x1 .f32 := (extractStridedSlice S4x1 ![0, 4095] · slices_S4x4096_S4x1_0_4095) main_v36
  let main_v41 : FVec F S4x4096 .f32 := sitofp .f32 main_v37
  fn_part2 (F := F) main_v26 main_v31 main_v36 main_v37 main_v38 main_v39 main_v40 main_v41

def fn {F : FTy → Type} [FloatOps F] (main_arg0 : FVec F S4x512x16384 .f32) (main_arg1 : IVec S4096 32) (main_arg2 : IVec S4096 32) (main_arg3 : IVec S4096 32) (main_arg4 : IVec S4096 32) (main_arg5 : FVec F S4096 .f32) (main_arg6 : FVec F S4096 .f32) (main_arg7 : FVec F S4096 .f32) (main_arg8 : FVec F S4096 .f32) : IVec S4x4096x4096 1 :=
  let main_cst : FVec F S_ .f32 := constant S_ .f32 0x00000000#32
  let main_v0 : FVec F S16384 .f32 := (fun x v => Host.reduceAdd x v reducesTo_S4x512x16384_S16384_d0_1 h_S_) main_arg0 main_cst
  let main_cst_0 : FVec F S_ .f32 := constant S_ .f32 0x45000000#32
  let main_v1 : FVec F S16384 .f32 := broadcastInDim S16384 ![] bcast_S_S16384 main_cst_0
  let main_v2 : FVec F S16384 .f32 := Host.divf main_v0 main_v1
  let main_v3 : FVec F S4x4096 .f32 := shapeCast S4x4096 main_v2 shapeCasts_S16384_S4x4096
  let main_cst_1 : FVec F S_ .f32 := constant S_ .f32 0x7F800000#32
  let main_v4 : FVec F S4 .f32 := (fun x v => Host.reduce FloatOps.minimumf x v reducesTo_S4x4096_S4_d1 h_S_) main_v3 main_cst_1
  let main_v5 : FVec F S4x1 .f32 := broadcastInDim S4x1 ![0] bcast_S4_S4x1_0 main_v4
  let main_cst_2 : FVec F S_ .f32 := constant S_ .f32 0xFF800000#32
  let main_v6 : FVec F S4 .f32 := (fun x v => Host.reduce FloatOps.maximumf x v reducesTo_S4x4096_S4_d1 h_S_) main_v3 main_cst_2
  let main_v7 : FVec F S4x1 .f32 := broadcastInDim S4x1 ![0] bcast_S4_S4x1_0 main_v6
  let main_v8 : FVec F S4x1 .f32 := subf main_v7 main_v5
  let main_v9 : FVec F S4x4096 .f32 := broadcastInDim S4x4096 ![0, 1] bcast_S4x1_S4x4096_0_1 main_v5
  let main_v10 : FVec F S4x4096 .f32 := subf main_v3 main_v9
  let main_cst_3 : FVec F S_ .f32 := constant S_ .f32 0x0DA24260#32
  let main_v11 : FVec F S4x1 .f32 := broadcastInDim S4x1 ![] bcast_S_S4x1 main_cst_3
  let main_v12 : FVec F S4x1 .f32 := maximumf main_v8 main_v11
  let main_cst_4 : FVec F S_ .f32 := constant S_ .f32 0x457FF800#32
  let main_v13 : FVec F S4x1 .f32 := broadcastInDim S4x1 ![] bcast_S_S4x1 main_cst_4
  let main_v14 : FVec F S4x1 .f32 := Host.divf main_v13 main_v12
  let main_v15 : FVec F S4x4096 .f32 := broadcastInDim S4x4096 ![0, 1] bcast_S4x1_S4x4096_0_1 main_v14
  let main_v16 : FVec F S4x4096 .f32 := mulf main_v10 main_v15
  let main_v17 : FVec F S4x4096 .f32 := Host.floor main_v16
  fn_part1 (F := F) main_arg1 main_arg2 main_arg3 main_arg4 main_arg5 main_arg6 main_arg7 main_arg8 main_v17
-- ==== Kernel.lean ====
abbrev S4x512x16384 : Shape := ⟨3, ![4, 512, 16384]⟩
abbrev S4096 : Shape := ⟨1, ![4096]⟩
abbrev S2048x16384 : Shape := ⟨2, ![2048, 16384]⟩
abbrev S1x4096 : Shape := ⟨2, ![1, 4096]⟩
abbrev S4x4096 : Shape := ⟨2, ![4, 4096]⟩
abbrev S1x1 : Shape := ⟨2, ![1, 1]⟩
abbrev S128x16384 : Shape := ⟨2, ![128, 16384]⟩
abbrev S1x16384 : Shape := ⟨2, ![1, 16384]⟩
abbrev S16384 : Shape := ⟨1, ![16384]⟩
abbrev S64x64 : Shape := ⟨2, ![64, 64]⟩
abbrev S64x4096 : Shape := ⟨2, ![64, 4096]⟩
abbrev S1x1x4096 : Shape := ⟨3, ![1, 1, 4096]⟩
abbrev S1 : Shape := ⟨1, ![1]⟩
abbrev S1x1x1 : Shape := ⟨3, ![1, 1, 1]⟩
abbrev S64 : Shape := ⟨1, ![64]⟩
abbrev S64x1 : Shape := ⟨2, ![64, 1]⟩

abbrev nBuf : Space → Nat
  | .hbm => 16
  | .vmem => 5
  | .smem => 0
  | _ => 0

abbrev bufTy : (tb : Table) → Fin (tcTables nBuf tb) → BufTy
  | .hbm, ⟨0, _⟩ => ⟨S4x512x16384, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S2048x16384, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S4x4096, .f32⟩
  | .hbm, ⟨15, _⟩ => ⟨S1x1, .f32⟩
  | .local _ .vmem, ⟨0, _⟩ => ⟨S128x16384, .f32⟩
  | .local _ .vmem, ⟨1, _⟩ => ⟨S128x16384, .f32⟩
  | .local _ .vmem, ⟨2, _⟩ => ⟨S4x4096, .f32⟩
  | .local _ .vmem, ⟨3, _⟩ => ⟨S1x1, .f32⟩
  | .local _ .vmem, ⟨4, _⟩ => ⟨S1x16384, .f32⟩
  | _, _ => ⟨S4x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "half_kappa" => some ((1 / 1000 : ℝ) : EReal)
  | "inv_last" => some ((1 / 4095 : ℝ) : EReal)
  | "kappa" => some ((1 / 500 : ℝ) : EReal)
  | _ => none
-- ==== Reference.lean ====
abbrev S4x512x16384 : Shape := ⟨3, ![4, 512, 16384]⟩
abbrev S4096 : Shape := ⟨1, ![4096]⟩
abbrev S_ : Shape := ⟨0, ![]⟩
abbrev S16384 : Shape := ⟨1, ![16384]⟩
abbrev S1x4096 : Shape := ⟨2, ![1, 4096]⟩
abbrev S4x4096 : Shape := ⟨2, ![4, 4096]⟩
abbrev S4x4096x1 : Shape := ⟨3, ![4, 4096, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4x512x16384, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S1x4096, .i32⟩
  | .hbm, ⟨15, _⟩ => ⟨S1x4096, .i32⟩
  | .hbm, ⟨16, _⟩ => ⟨S1x4096, .i32⟩
  | .hbm, ⟨17, _⟩ => ⟨S1x4096, .i32⟩
  | .hbm, ⟨18, _⟩ => ⟨S4x4096, .i32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4x4096, .f32⟩
  | .hbm, ⟨24, _⟩ => ⟨S_, .i32⟩
  | .hbm, ⟨25, _⟩ => ⟨S4x4096, .i32⟩
  | .hbm, ⟨26, _⟩ => ⟨S4x4096, .i1⟩
  | .hbm, ⟨27, _⟩ => ⟨S_, .i32⟩
  | .hbm, ⟨28, _⟩ => ⟨S4x4096, .i32⟩
  | .hbm, ⟨29, _⟩ => ⟨S4x4096, .i32⟩
  | .hbm, ⟨30, _⟩ => ⟨S4x4096, .i32⟩
  | .hbm, ⟨31, _⟩ => ⟨S4x4096x1, .i32⟩
  | .hbm, ⟨32, _⟩ => ⟨S1, .i32⟩
  | .hbm, ⟨33, _⟩ => ⟨S_, .i32⟩
  | .hbm, ⟨34, _⟩ => ⟨S4x4096x1, .i32⟩
  | .hbm, ⟨35, _⟩ => ⟨S4x4096x1, .i1⟩
  | .hbm, ⟨36, _⟩ => ⟨S1x1x1, .i32⟩
  | .hbm, ⟨37, _⟩ => ⟨S4x4096x1, .i32⟩
  | .hbm, ⟨38, _⟩ => ⟨S4x4096x1, .i1⟩
  | .hbm, ⟨39, _⟩ => ⟨S4x4096x1, .i1⟩
  | .hbm, ⟨40, _⟩ => ⟨S_, .i1⟩
  | .hbm, ⟨41, _⟩ => ⟨S4x4096, .i1⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S4x4096, .f32⟩
  | .hbm, ⟨47, _⟩ => ⟨S4x4096, .f32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S1x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4x4096, .f32⟩
  | .hbm, ⟨63, _⟩ => ⟨S4x4096, .i1⟩
  | .hbm, ⟨64, _⟩ => ⟨S4x4096, .f32⟩
  | .hbm, ⟨65, _⟩ => ⟨S4x4096, .f32⟩
  | .hbm, ⟨66, _⟩ => ⟨S4x4096, .f32⟩
  | .hbm, ⟨67, _⟩ => ⟨S4x4096, .f32⟩
  | .hbm, ⟨68, _⟩ => ⟨S4x4096, .f32⟩
  | .hbm, ⟨69, _⟩ => ⟨S4x4096, .i1⟩
  | .hbm, ⟨70, _⟩ => ⟨S_, .f32⟩
  | .hbm, ⟨71, _⟩ => ⟨S_, .f32⟩
  | .hbm, ⟨72, _⟩ => ⟨S4x4096, .f32⟩
  | .hbm, ⟨73, _⟩ => ⟨S4x4096, .f32⟩
  | .hbm, ⟨74, _⟩ => ⟨S4x4096, .f32⟩
  | .hbm, ⟨75, _⟩ => ⟨S4x4096, .f32⟩
  | .hbm, ⟨76, _⟩ => ⟨S_, .f32⟩
  | .hbm, ⟨77, _⟩ => ⟨S_, .f32⟩
  | .hbm, ⟨78, _⟩ => ⟨S4x4096, .f32⟩
  | .hbm, ⟨79, _⟩ => ⟨S4x4096, .f32⟩
  | .hbm, ⟨80, _⟩ => ⟨S4x4096, .f32⟩
  | .hbm, ⟨81, _⟩ => ⟨S4x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1x1, .f32⟩
  | _, _ => ⟨S4x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_cst_3 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_6 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_7 : Ref sig .tc := ⟨.hbm, 82, rfl⟩
abbrev main_v43 : Ref sig .tc := ⟨.hbm, 83, rfl⟩
abbrev main_cst_8 : Ref sig .tc := ⟨.hbm, 84, rfl⟩
abbrev main_v44 : Ref sig .tc := ⟨.hbm, 85, rfl⟩
abbrev main_v45 : Ref sig .tc := ⟨.hbm, 86, rfl⟩

abbrev nD : Nat := 1
abbrev τ : Topo := Topo.v7x

variable {F : FTy → Type} [FloatOps F]
-- ==== Binned.lean ====
abbrev S4x512x16384 : Shape := ⟨3, ![4, 512, 16384]⟩
abbrev S4096 : Shape := ⟨1, ![4096]⟩
abbrev S_ : Shape := ⟨0, ![]⟩
abbrev S16384 : Shape := ⟨1, ![16384]⟩
abbrev S1x4096 : Shape := ⟨2, ![1, 4096]⟩
abbrev S4x4096 : Shape := ⟨2, ![4, 4096]⟩
abbrev S4x4096x1 : Shape := ⟨3, ![4, 4096, 1]⟩
abbrev S1 : Shape := ⟨1, ![1]⟩
abbrev S1x1x1 : Shape := ⟨3, ![1, 1, 1]⟩
abbrev S4 : Shape := ⟨1, ![4]⟩
abbrev S4x1 : Shape := ⟨2, ![4, 1]⟩
abbrev S4x1x4096 : Shape := ⟨3, ![4, 1, 4096]⟩
abbrev S4x4096x4096 : Shape := ⟨3, ![4, 4096, 4096]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S4x512x16384, .f32⟩
  | 1 => ⟨S4096, .i32⟩
  | 2 => ⟨S4096, .i32⟩
  | 3 => ⟨S4096, .i32⟩
  | 4 => ⟨S4096, .i32⟩
  | 5 => ⟨S4096, .f32⟩
  | 6 => ⟨S4096, .f32⟩
  | 7 => ⟨S4096, .f32⟩
  | 8 => ⟨S4096, .f32⟩
  | 9 => ⟨S_, .f32⟩
  | 10 => ⟨S16384, .f32⟩
  | 11 => ⟨S_, .f32⟩
  | 12 => ⟨S16384, .f32⟩
  | 13 => ⟨S16384, .f32⟩
  | 14 => ⟨S1x4096, .i32⟩
  | 15 => ⟨S1x4096, .i32⟩
  | 16 => ⟨S1x4096, .i32⟩
  | 17 => ⟨S1x4096, .i32⟩
  | 18 => ⟨S4x4096, .i32⟩
  | 19 => ⟨S1x4096, .f32⟩
  | 20 => ⟨S1x4096, .f32⟩
  | 21 => ⟨S1x4096, .f32⟩
  | 22 => ⟨S1x4096, .f32⟩
  | 23 => ⟨S4x4096, .f32⟩
  | 24 => ⟨S_, .i32⟩
  | 25 => ⟨S4x4096, .i32⟩
  | 26 => ⟨S4x4096, .i1⟩
  | 27 => ⟨S_, .i32⟩
  | 28 => ⟨S4x4096, .i32⟩
  | 29 => ⟨S4x4096, .i32⟩
  | 30 => ⟨S4x4096, .i32⟩
  | 31 => ⟨S4x4096x1, .i32⟩
  | 32 => ⟨S1, .i32⟩
  | 33 => ⟨S_, .i32⟩
  | 34 => ⟨S4x4096x1, .i32⟩
  | 35 => ⟨S4x4096x1, .i1⟩
  | 36 => ⟨S1x1x1, .i32⟩
  | 37 => ⟨S4x4096x1, .i32⟩
  | 38 => ⟨S4x4096x1, .i1⟩
  | 39 => ⟨S4x4096x1, .i1⟩
  | 40 => ⟨S_, .i1⟩
  | 41 => ⟨S4x4096, .i1⟩
  | 42 => ⟨S4x4096, .f32⟩
  | 43 => ⟨S_, .f32⟩
  | 44 => ⟨S4x4096, .f32⟩
  | 45 => ⟨S4x4096, .f32⟩
  | 46 => ⟨S_, .f32⟩
  | 47 => ⟨S4, .f32⟩
  | 48 => ⟨S4x1, .f32⟩
  | 49 => ⟨S_, .f32⟩
  | 50 => ⟨S4, .f32⟩
  | 51 => ⟨S4x1, .f32⟩
  | 52 => ⟨S4x1, .f32⟩
  | 53 => ⟨S4x4096, .f32⟩
  | 54 => ⟨S4x4096, .f32⟩
  | 55 => ⟨S_, .f32⟩
  | 56 => ⟨S4x1, .f32⟩
  | 57 => ⟨S4x1, .f32⟩
  | 58 => ⟨S_, .f32⟩
  | 59 => ⟨S4x1, .f32⟩
  | 60 => ⟨S4x1, .f32⟩
  | 61 => ⟨S4x4096, .f32⟩
  | 62 => ⟨S4x4096, .f32⟩
  | 63 => ⟨S4x4096, .f32⟩
  | 64 => ⟨S4x1x4096, .f32⟩
  | 65 => ⟨S4x4096x1, .f32⟩
  | 66 => ⟨S4x4096x4096, .f32⟩
  | 67 => ⟨S4x4096x4096, .f32⟩
  | 68 => ⟨S4x4096x4096, .i1⟩
  | 69 => ⟨S4x4096x4096, .i32⟩
  | 70 => ⟨S_, .i32⟩
  | 71 => ⟨S4x4096, .i32⟩
  | 72 => ⟨S_, .i32⟩
  | 73 => ⟨S4x4096, .i32⟩
  | 74 => ⟨S4x4096, .i1⟩
  | 75 => ⟨S_, .i32⟩
  | 76 => ⟨S4x4096, .i32⟩
  | 77 => ⟨S4x4096, .i32⟩
  | 78 => ⟨S4x4096, .i32⟩
  | 79 => ⟨S4x4096x1, .i32⟩
  | 80 => ⟨S1, .i32⟩
  | 81 => ⟨S_, .i32⟩
  | 82 => ⟨S4x4096x1, .i32⟩
  | 83 => ⟨S4x4096x1, .i1⟩
  | 84 => ⟨S1x1x1, .i32⟩
  | 85 => ⟨S4x4096x1, .i32⟩
  | 86 => ⟨S4x4096x1, .i1⟩
  | 87 => ⟨S4x4096x1, .i1⟩
  | 88 => ⟨S_, .i1⟩
  | 89 => ⟨S4x4096, .i1⟩
  | 90 => ⟨S4x4096, .f32⟩
  | 91 => ⟨S_, .f32⟩
  | 92 => ⟨S4x4096, .f32⟩
  | 93 => ⟨S4x4096, .f32⟩
  | 94 => ⟨S4x4096, .f32⟩
  | 95 => ⟨S_, .i32⟩
  | 96 => ⟨S4x4096, .i32⟩
  | 97 => ⟨S4x4096, .i32⟩
  | 98 => ⟨S4x4096, .f32⟩
  | 99 => ⟨S_, .f32⟩
  | 100 => ⟨S4x4096, .f32⟩
  | 101 => ⟨S4x4096, .f32⟩
  | 102 => ⟨S_, .f32⟩
  | 103 => ⟨S_, .f32⟩
  | 104 => ⟨S_, .f32⟩
  | 105 => ⟨S4x4096, .f32⟩
  | 106 => ⟨S_, .f32⟩
  | 107 => ⟨S4x4096, .f32⟩
  | 108 => ⟨S4x4096, .i1⟩
  | 109 => ⟨S4x4096, .f32⟩
  | 110 => ⟨S4x4096, .f32⟩
  | 111 => ⟨S4x4096, .f32⟩
  | 112 => ⟨S4x4096, .f32⟩
  | 113 => ⟨S4x4096, .i1⟩
  | 114 => ⟨S_, .f32⟩
  | 115 => ⟨S_, .f32⟩
  | 116 => ⟨S4x4096, .f32⟩
  | 117 => ⟨S4x4096, .f32⟩
  | 118 => ⟨S4x4096, .f32⟩
  | 119 => ⟨S4x4096, .f32⟩
  | 120 => ⟨S_, .f32⟩
  | 121 => ⟨S_, .f32⟩
  | 122 => ⟨S4x4096, .f32⟩
  | 123 => ⟨S4x4096, .f32⟩
  | 124 => ⟨S4x4096, .f32⟩
  | 125 => ⟨S4x4096, .f32⟩
  | 126 => ⟨S_, .f32⟩
  | 127 => ⟨S_, .f32⟩
  | _ => ⟨S4x512x16384, .f32⟩

abbrev hbmTy0_1 (i : Nat) : BufTy := match i % 128 with
  | 0 => ⟨S_, .f32⟩
  | 1 => ⟨S_, .f32⟩
  | 2 => ⟨S1x1, .f32⟩
  | _ => ⟨S4x512x16384, .f32⟩

abbrev hbmTy (i : Nat) : BufTy := match i / 128 with
  | 0 => hbmTy0_0 i
  | 1 => hbmTy0_1 i
  | _ => ⟨S4x512x16384, .f32⟩

abbrev bufTy : (tb : Table) → Fin (tcTables nBuf tb) → BufTy
  | .hbm, ⟨i, _⟩ => hbmTy i
  | _, _ => ⟨S4x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_cst_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c : Ref sig .tc := ⟨.hbm, 70, rfl⟩
abbrev main_v34 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_cst : Ref sig .tc := ⟨.hbm, 91, rfl⟩
abbrev main_call1_v14 : Ref sig .tc := ⟨.hbm, 92, rfl⟩
abbrev main_v35 : Ref sig .tc := ⟨.hbm, 93, rfl⟩
abbrev main_v36 : Ref sig .tc := ⟨.hbm, 94, rfl⟩
abbrev main_c_5 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_6 : Ref sig .tc := ⟨.hbm, 99, rfl⟩
abbrev main_v40 : Ref sig .tc := ⟨.hbm, 100, rfl⟩
abbrev main_v41 : Ref sig .tc := ⟨.hbm, 101, rfl⟩
abbrev main_cst_7 : Ref sig .tc := ⟨.hbm, 102, rfl⟩
abbrev main_cst_8 : Ref sig .tc := ⟨.hbm, 103, rfl⟩
abbrev main_v42 : Ref sig .tc := ⟨.hbm, 104, rfl⟩
abbrev main_v43 : Ref sig .tc := ⟨.hbm, 105, rfl⟩
abbrev main_cst_9 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_cst_10 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_cst_11 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_12 : Ref sig .tc := ⟨.hbm, 126, rfl⟩
abbrev main_v61 : Ref sig .tc := ⟨.hbm, 127, rfl⟩
abbrev main_cst_13 : Ref sig .tc := ⟨.hbm, 128, rfl⟩
abbrev main_v62 : Ref sig .tc := ⟨.hbm, 129, rfl⟩
abbrev main_v63 : Ref sig .tc := ⟨.hbm, 130, rfl⟩

abbrev nD : Nat := 1
abbrev τ : Topo := Topo.v7x

variable {F : FTy → Type} [FloatOps F]
-- ==== Proof.Blocks.lean ====
module

public import proofs.«01_k».proof.Proof.Gen.KernelIdeal.Skeleton

@[expose] public section

noncomputable section

/-!
  The kernel's last step treats its four blocks of 4096 neurons alike, in windows cut at different places. Each block's
  windows, composed, are the same two functions: the block's ranks, and the loss total advanced by the block's loss.
-/

namespace Cert.KernelIdeal.Blocks

open Idealize.ShloMosaic Cert.KernelIdeal Cert.KernelIdeal.Gen

variable {F : FTy → Type} [FloatOps F] [Named F]

/-- The row numbers 0 … 63 down each column. -/
def rows : IVec S64x4096 32 := iota .tc S64x4096 32 [0] iota_S64x4096_d0_w32

/-- The bins of a block's rates. -/
def bins (x : FVec F S1x4096 .f32) : FVec F S1x4096 .f32 :=
  let x3 : FVec F S1x1x4096 .f32 := shapeCast S1x1x4096 x shapeCasts_S1x4096_S1x1x4096
  let mn : FVec F S1 .f32 := multiReduction .minimumf [1, 2] S1 x3 0x7F800000#32 reduces_S1x1x4096_S1 (.inl rfl) rfl
  let mx : FVec F S1 .f32 := multiReduction .maximumf [1, 2] S1 x3 0xFF800000#32 reduces_S1x1x4096_S1 (.inl rfl) rfl
  let lo : FVec F S1x1 .f32 := broadcast S1x1 (extractAt ![0, 0, 0] (shapeCast S1x1x1 mn shapeCasts_S1_S1x1x1) inpos_S1x1x1_p0_0_0)
  let hi : FVec F S1x1 .f32 := broadcast S1x1 (extractAt ![0, 0, 0] (shapeCast S1x1x1 mx shapeCasts_S1_S1x1x1) inpos_S1x1x1_p0_0_0)
  let w : FVec F S1x1 .f32 := maximumf (subf hi lo) (broadcast S1x1 (Scalar.ofBits .f32 0x0DA24260#32))
  let k : FVec F S1x1 .f32 := divf (broadcast S1x1 (Scalar.ofBits .f32 0x457FF800#32)) w
  floor (mulf (subf x (broadcastTo S1x4096 lo broadcasts_S1x1_S1x4096)) (broadcastTo S1x4096 k broadcasts_S1x1_S1x4096))

/-- The high digits of bins. -/
def high (q : FVec F S1x4096 .f32) : FVec F S1x4096 .f32 :=
  floor (mulf q (broadcast S1x4096 (Scalar.ofBits .f32 0x3C800000#32)))

/-- The low digits of bins. -/
def low (q : FVec F S1x4096 .f32) : FVec F S1x4096 .f32 :=
  subf q (mulf (high q) (broadcast S1x4096 (Scalar.ofBits .f32 0x42800000#32)))

/-- The one-hot columns of a row of digits. -/
def hot (d : FVec F S1x4096 .f32) : FVec F S64x4096 .f32 :=
  sitofp .f32 (extui 32 (cmpi .eq rows (broadcastTo S64x4096 (fptosi 32 d) broadcasts_S1x4096_S64x4096)) natLt_1_32)

/-- How many neurons have each pair of digits: rows are high digits, columns low digits. -/
def counts (H L : FVec F S64x4096 .f32) : FVec F S64x64 .f32 :=
  matmul dot_S64x4096_S64x4096_S64x64_1_1_0_0_n_n none H L (constant S64x64 .f32 0x00000000#32)

/-- The counts summed along each row, weighted by `U`. -/
def along (M U : FVec F S64x64 .f32) : FVec F S64x64 .f32 :=
  matmul dot_S64x64_S64x64_S64x64_1_0_0_1_n_n none M U (constant S64x64 .f32 0x00000000#32)

/-- The counts of whole rows, summed with weights `V`. -/
def above (M V : FVec F S64x64 .f32) : FVec F S64x1 .f32 :=
  matmul dot_S64x64_S64x1_S64x1_1_0_0_1_n_n none V
    (shapeCast S64x1 (multiReduction .add [1] S64 M 0x00000000#32 reduces_S64x64_S64 (.inl rfl) rfl) shapeCasts_S64_S64x1)
    (constant S64x1 .f32 0x00000000#32)

/-- For each neuron, the entry of its digits in `P` and the entry of its high digit in `Q`, added. -/
def picked (H L : FVec F S64x4096 .f32) (P : FVec F S64x64 .f32) (Q : FVec F S64x1 .f32) : FVec F S1x4096 .f32 :=
  shapeCast S1x4096
    (multiReduction .add [0] S4096
      (mulf H (addf (matmul dot_S64x64_S64x4096_S64x4096_1_0_0_1_n_n none P L (constant S64x4096 .f32 0x00000000#32))
        (broadcastTo S64x4096 Q broadcasts_S64x1_S64x4096)))
      0x00000000#32 reduces_S64x4096_S4096 (.inl rfl) rfl) shapeCasts_S4096_S1x4096

/-- The ranks that one-hot columns give. -/
def ranksOf (H L : FVec F S64x4096 .f32) : FVec F S1x4096 .f32 :=
  picked H L (along (counts H L) (k0_pay6 (F := F))) (above (counts H L) (k0_pay7 (F := F)))

/-- The ranks of a block's rates. -/
def ranks (x : FVec F S1x4096 .f32) : FVec F S1x4096 .f32 := ranksOf (hot (high (bins x))) (hot (low (bins x)))

/-- The total `t` with a block's loss added: rates `x`, first and last target rate `a` and `b`. -/
def addLoss (t : FVec F S1x1 .f32) (x : FVec F S1x4096 .f32) (a b : Vec F S1x1 .f32) : FVec F S1x1 .f32 :=
  k0_pay32 t x (ranks x) a b

/-- Block 0's windows. -/
theorem block0 (v15 : Vec F S1x16384 .f32) (a b : Vec F S1x1 .f32) :
    k0_pay20 (k0_pay5 (F := F))
        (k0_pay17 (k0_pay6 (F := F)) (k0_pay7 (F := F)) (k0_pay8 v15) (k0_pay11 v15) (k0_pay12 v15) a b)
        (k0_pay18 (k0_pay6 (F := F)) (k0_pay7 (F := F)) (k0_pay8 v15) (k0_pay11 v15) (k0_pay12 v15) a b)
        (k0_pay19 (k0_pay6 (F := F)) (k0_pay7 (F := F)) (k0_pay8 v15) (k0_pay11 v15) (k0_pay12 v15) a b)
      = addLoss (k0_pay5 (F := F)) (k0_pay8 v15) a b := rfl

/-- Block 1's windows. -/
theorem block1 (t : FVec F S1x1 .f32) (v17 : FVec F S1x16384 .f32) (a b : Vec F S1x1 .f32) :
    k0_pay29 t (k0_pay21 v17) (k0_pay24 v17 rows) (k0_pay25 v17 rows) (k0_pay27 v17 (k0_pay6 (F := F)) rows)
        (k0_pay28 v17 (k0_pay7 (F := F)) rows) a b
      = addLoss t (k0_pay21 v17) a b := rfl

/-- Block 2's windows. -/
theorem block2 (t : FVec F S1x1 .f32) (v17 : FVec F S1x16384 .f32) (a b : Vec F S1x1 .f32) :
    k0_pay32 t (k0_pay30 v17) (k0_pay31 (k0_pay6 (F := F)) (k0_pay7 (F := F)) rows (k0_pay30 v17)) a b
      = addLoss t (k0_pay30 v17) a b := rfl

/-- Block 3's windows and the division by the number of neurons. -/
theorem block3 (t : FVec F S1x1 .f32) (v17 : FVec F S1x16384 .f32) (a b : Vec F S1x1 .f32) :
    k0_pay3 t (k0_pay33 v17)
        (k0_pay36 (k0_pay6 (F := F)) (k0_pay7 (F := F)) rows (k0_pay33 v17) (k0_pay34 v17) (k0_pay35 v17))
        (k0_pay37 a) (k0_pay38 a b) (Named.named κ "inv_last" 0x39800801#32)
      = mulf (addLoss t (k0_pay33 v17) a b) (broadcast S1x1 (Scalar.ofBits .f32 0x38800000#32)) := rfl

end Cert.KernelIdeal.Blocks

end
-- ==== Proof.Points.lean ====
module

public import proofs.«01_k».proof.Proof.Blocks
public import proofs.«01_k».proof.Proof.Gen.KernelIdeal.Value
public import Idealize.ShloMosaic.Lib.Tactic

@[expose] public section

set_option maxRecDepth 65536

noncomputable section

/-! What one grid point leaves: the column sums so far and, at the last point, the loss. -/

namespace Cert.KernelIdeal.Points

open Idealize.ShloMosaic Cert.KernelIdeal Cert.KernelIdeal.Gen

variable {F : FTy → Type} [FloatOps F] [Named F]

/-- Two zero offsets. -/
theorem hz : (![0, 0] : Fin 2 → Nat) = fun _ => 0 := funext fun a => by fin_cases a <;> rfl

/-- The entry of the targets at row `b`, column `k`, as the kernel loads it. -/
def target (x1 : Vec F S4x4096 .f32) (b k : ℕ) (h : ∀ a, (![b, k] : Fin 2 → Nat) a + S1x1.size a ≤ S4x4096.size a) : Vec F S1x1 .f32 :=
  View.ld x1 (Rect.unit (s := S4x4096) ![b, k] S1x1.size h)

/-- The first point's column sums: those of its rows, over zeros. -/
theorem sums_A (c : Dev nD) (i : grid0.Coords) (a1 : Memref sig .tc .vmem S128x16384 .f32) (h1 : a1.IsWhole)
    (a2 : Memref sig .tc .vmem S4x4096 .f32) (h2 : a2.IsWhole) (a3 : Memref sig .tc .vmem S1x1 .f32) (h3 : a3.IsWhole)
    (a4 : Memref sig .tc .vmem S1x16384 .f32) (h4 : a4.IsWhole) (hc0 : cond0_0 i) (hc1 : ¬cond0_1 i)
    (x0 : Vec F S128x16384 .f32) (x1 : Vec F S4x4096 .f32) :
    sout0_A_0 c i a1 h1 a2 h2 a3 h3 a4 h4 hc0 hc1 x0 x1 = k0_pay2 (k0_pay1 (F := F)) x0 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x16384) hz, View.readCov_unit_zero (S := S1x16384) _ hz]
  simp only [View.readAt_eq_ld, h1.read_unread, View.ld_unit_zero (S := S128x16384) hz]

/-- A later point's column sums: those of its rows, over what the point before left. -/
theorem sums_B (c : Dev nD) (i : grid0.Coords) (a1 : Memref sig .tc .vmem S128x16384 .f32) (h1 : a1.IsWhole)
    (a2 : Memref sig .tc .vmem S4x4096 .f32) (h2 : a2.IsWhole) (a3 : Memref sig .tc .vmem S1x1 .f32) (h3 : a3.IsWhole)
    (a4 : Memref sig .tc .vmem S1x16384 .f32) (h4 : a4.IsWhole) (hc0 : ¬cond0_0 i) (hc1 : ¬cond0_1 i)
    (x0 : Vec F S128x16384 .f32) (x1 : Vec F S4x4096 .f32) (xs : Vec F S1x16384 .f32) :
    sout0_B_0 c i a1 h1 a2 h2 a3 h3 a4 h4 hc0 hc1 x0 x1 xs = k0_pay2 xs x0 := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h4.read_unread, View.ld_unit_zero (S := S128x16384) hz,
    View.ld_unit_zero (S := S1x16384) hz]

/-- The loss of the four blocks of summed rates `s`, over their numbers, with targets `x1`. -/
def lossOf (s : Vec F S1x16384 .f32) (x1 : Vec F S4x4096 .f32) : FVec F S1x1 .f32 :=
  mulf
    (Blocks.addLoss
      (Blocks.addLoss
        (Blocks.addLoss
          (Blocks.addLoss (k0_pay5 (F := F)) (k0_pay8 s)
            (target x1 0 0 inb_S4x4096_S1x1_0_0) (target x1 0 4095 inb_S4x4096_S1x1_0_4095))
          (k0_pay21 (k0_pay4 s)) (target x1 1 0 inb_S4x4096_S1x1_1_0) (target x1 1 4095 inb_S4x4096_S1x1_1_4095))
        (k0_pay30 (k0_pay4 s)) (target x1 2 0 inb_S4x4096_S1x1_2_0) (target x1 2 4095 inb_S4x4096_S1x1_2_4095))
      (k0_pay33 (k0_pay4 s)) (target x1 3 0 inb_S4x4096_S1x1_3_0) (target x1 3 4095 inb_S4x4096_S1x1_3_4095))
    (broadcast S1x1 (Scalar.ofBits .f32 0x38800000#32))

/-- The last point's result: the loss of all the column sums. -/
theorem out_C (c : Dev nD) (i : grid0.Coords) (a1 : Memref sig .tc .vmem S128x16384 .f32) (h1 : a1.IsWhole)
    (a2 : Memref sig .tc .vmem S4x4096 .f32) (h2 : a2.IsWhole) (a3 : Memref sig .tc .vmem S1x1 .f32) (h3 : a3.IsWhole)
    (a4 : Memref sig .tc .vmem S1x16384 .f32) (h4 : a4.IsWhole) (hc0 : ¬cond0_0 i) (hc1 : cond0_1 i)
    (x0 : Vec F S128x16384 .f32) (x1 : Vec F S4x4096 .f32) (xs : Vec F S1x16384 .f32) :
    out0_C_2 c i a1 h1 a2 h2 a3 h3 a4 h4 hc0 hc1 x0 x1 xs = lossOf (k0_pay2 xs x0) x1 := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x16384) _ hz, View.readAt_eq_ld, h1.read_unread, h2.read_unread,
    h4.read_unread, View.ld_unit_zero (S := S128x16384) hz, View.ld_unit_zero (S := S1x16384) hz]
  rw [show (iota .tc S64x4096 32 [0] iota_S64x4096_d0_w32 : IVec S64x4096 32) = Blocks.rows from rfl, Blocks.block0,
    Blocks.block1, Blocks.block2, Blocks.block3]
  rfl

end Cert.KernelIdeal.Points

end
-- ==== Proof.Consts.lean ====
module

public import Idealize.ShloMosaic.PureOps.Ideal

@[expose] public section

noncomputable section

/-! The float literals of the programs, read as extended reals. -/

namespace Cert.Consts

open Idealize.ShloMosaic

/-- The word of 4095.5. -/
theorem bins_word : Ideal.ofBits .f32 0x457FF800#32 = ((8191 / 2 : ℝ) : EReal) := by
  simp [Ideal.ofBits, Ideal.ieee, -EReal.coe_mul]; norm_num

/-- The word of 1e-30 is a positive real. -/
theorem tiny_word : ∃ e : ℝ, 0 < e ∧ Ideal.ofBits .f32 0x0DA24260#32 = (e : EReal) := by
  refine ⟨10633824 / 2 ^ 123, by norm_num, ?_⟩
  simp [Ideal.ofBits, Ideal.ieee, -EReal.coe_mul]; norm_num

/-- The word of 1/2048. -/
theorem inv2048_word : Ideal.ofBits .f32 0x3A000000#32 = ((1 / 2048 : ℝ) : EReal) := by
  simp [Ideal.ofBits, Ideal.ieee, -EReal.coe_mul]; norm_num

/-- The word of 2048. -/
theorem w2048_word : Ideal.ofBits .f32 0x45000000#32 = ((2048 : ℝ) : EReal) := by
  simp [Ideal.ofBits, Ideal.ieee, -EReal.coe_mul]; norm_num

/-- The word of 1/64. -/
theorem inv64_word : Ideal.ofBits .f32 0x3C800000#32 = ((1 / 64 : ℝ) : EReal) := by
  simp [Ideal.ofBits, Ideal.ieee, -EReal.coe_mul]; norm_num

/-- The word of 64. -/
theorem w64_word : Ideal.ofBits .f32 0x42800000#32 = ((64 : ℝ) : EReal) := by
  simp [Ideal.ofBits, Ideal.ieee, -EReal.coe_mul]; norm_num

/-- The word of 1/16384. -/
theorem inv16384_word : Ideal.ofBits .f32 0x38800000#32 = ((1 / 16384 : ℝ) : EReal) := by
  simp [Ideal.ofBits, Ideal.ieee, -EReal.coe_mul]; norm_num

/-- The word of 16384. -/
theorem w16384_word : Ideal.ofBits .f32 0x46800000#32 = ((16384 : ℝ) : EReal) := by
  simp [Ideal.ofBits, Ideal.ieee, -EReal.coe_mul]; norm_num

/-- The word of 250. -/
theorem w250_word : Ideal.ofBits .f32 0x437A0000#32 = ((250 : ℝ) : EReal) := by
  simp [Ideal.ofBits, Ideal.ieee, -EReal.coe_mul]; norm_num

/-- The word of 4095. -/
theorem w4095_word : Ideal.ofBits .f32 0x457FF000#32 = ((4095 : ℝ) : EReal) := by
  simp [Ideal.ofBits, Ideal.ieee, -EReal.coe_mul]; norm_num

/-- The word of 4096. -/
theorem w4096_word : Ideal.ofBits .f32 0x45800000#32 = ((4096 : ℝ) : EReal) := by
  simp [Ideal.ofBits, Ideal.ieee, -EReal.coe_mul]; norm_num

/-- The word of 2. -/
theorem w2_word : Ideal.ofBits .f32 0x40000000#32 = ((2 : ℝ) : EReal) := by
  simp [Ideal.ofBits, Ideal.ieee, -EReal.coe_mul]; norm_num

/-- The word of 1000. -/
theorem w1000_word : Ideal.ofBits .f32 0x447A0000#32 = ((1000 : ℝ) : EReal) := by
  simp [Ideal.ofBits, Ideal.ieee, -EReal.coe_mul]; norm_num

/-- The word of 1/2. -/
theorem half_word : Ideal.ofBits .f32 0x3F000000#32 = ((1 / 2 : ℝ) : EReal) := by
  simp [Ideal.ofBits, Ideal.ieee, -EReal.coe_mul]; norm_num

/-- The word of plus infinity. -/
theorem top_word : Ideal.ofBits .f32 0x7F800000#32 = (⊤ : EReal) := by
  simp [Ideal.ofBits, Ideal.ieee]

/-- The word of minus infinity. -/
theorem bot_word : Ideal.ofBits .f32 0xFF800000#32 = (⊥ : EReal) := by
  simp [Ideal.ofBits, Ideal.ieee]

/-- The word of one. -/
theorem one_word : Ideal.ofBits .f32 0x3F800000#32 = (1 : EReal) := by
  simp [Ideal.ofBits, Ideal.ieee, -EReal.coe_mul]; norm_num

/-- The word of zero. -/
theorem zero_word : Ideal.ofBits .f32 0x00000000#32 = (0 : EReal) := by
  simp [Ideal.ofBits, Ideal.ieee]

end Cert.Consts

end
-- ==== Proof.Rank.lean ====
module

public import Mathlib.Data.EReal.Operations
public import Mathlib.Algebra.BigOperators.Fin

@[expose] public section

noncomputable section

/-!
  A rank read off a two-level histogram. Every item carries a pair of digits (high, low), each below 64. The items'
  one-hot rows give, by sums of products, the number of items whose pair comes before a given item's pair in the
  dictionary order; where no item has a high digit below 64 the same sums are zero.
-/

namespace Cert.Rank

open Finset

variable {n : ℕ} (hi lo : Fin n → ℕ)

/-- A sum weighted by the indicator of one digit is the term at that digit. -/
theorem sum_pick (k : ℕ) (hk : k < 64) (f : Fin 64 → ℕ) :
    ∑ a : Fin 64, (if k = a.val then 1 else 0) * f a = f ⟨k, hk⟩ := by
  rw [Finset.sum_eq_single (⟨k, hk⟩ : Fin 64)]
  · simp
  · intro b _ hb
    have : k ≠ b.val := fun h => hb (Fin.ext h.symm)
    simp [this]
  · simp

/-- How many items carry the pair of digits (a, b). -/
def hist (a b : Fin 64) : ℕ := ∑ j, (if hi j = a.val then 1 else 0) * (if lo j = b.val then 1 else 0)

/-- The items of high digit `h` whose low digit is below `l`, counted through the histogram's row. -/
theorem row_prefix (hlo : ∀ j, lo j < 64) (h l : Fin 64) :
    ∑ c : Fin 64, hist hi lo h c * (if c < l then 1 else 0)
      = ∑ j, if hi j = h.val ∧ lo j < l.val then 1 else 0 := by
  unfold hist
  simp only [Finset.sum_mul]
  rw [Finset.sum_comm]
  refine Finset.sum_congr rfl fun j _ => ?_
  simp only [mul_assoc]
  rw [← Finset.mul_sum, sum_pick (lo j) (hlo j)]
  by_cases h1 : hi j = h.val <;> by_cases h2 : lo j < l.val <;> simp [h1, h2, Fin.lt_def]

/-- The items whose high digit is below `h`, counted through the histogram's rows. -/
theorem rows_before (hhi : ∀ j, hi j < 64) (hlo : ∀ j, lo j < 64) (h : Fin 64) :
    ∑ c : Fin 64, (if c < h then 1 else 0) * ∑ b : Fin 64, hist hi lo c b
      = ∑ j, if hi j < h.val then 1 else 0 := by
  have e : ∀ c : Fin 64, ∑ b : Fin 64, hist hi lo c b = ∑ j, if hi j = c.val then 1 else 0 := by
    intro c
    unfold hist
    rw [Finset.sum_comm]
    refine Finset.sum_congr rfl fun j _ => ?_
    rw [← Finset.mul_sum]
    have := sum_pick (lo j) (hlo j) (fun _ => 1)
    simp only [mul_one] at this
    rw [this, mul_one]
  simp only [e, Finset.mul_sum]
  rw [Finset.sum_comm]
  refine Finset.sum_congr rfl fun j _ => ?_
  have := sum_pick (hi j) (hhi j) (fun c => if c < h then 1 else 0)
  simp only [Fin.lt_def] at this
  rw [← this]
  exact Finset.sum_congr rfl fun c _ => by rw [mul_comm]; simp only [Fin.lt_def]

/-- The rank as the one-hot rows give it, over the natural numbers, is the number of items before item `i`. -/
theorem nat_rank (hhi : ∀ j, hi j < 64) (hlo : ∀ j, lo j < 64) (i : Fin n) :
    ∑ a : Fin 64, (if hi i = a.val then 1 else 0)
        * (∑ b : Fin 64, (∑ c : Fin 64, hist hi lo a c * (if c < b then 1 else 0)) * (if lo i = b.val then 1 else 0)
          + ∑ c : Fin 64, (if c < a then 1 else 0) * ∑ b : Fin 64, hist hi lo c b)
      = #{j | hi j < hi i ∨ (hi j = hi i ∧ lo j < lo i)} := by
  rw [sum_pick (hi i) (hhi i)]
  have e := sum_pick (lo i) (hlo i) (fun b => ∑ c : Fin 64, hist hi lo ⟨hi i, hhi i⟩ c * (if c < b then 1 else 0))
  rw [Finset.sum_congr rfl fun b _ => mul_comm _ _, e, row_prefix hi lo hlo, rows_before hi lo hhi hlo,
    ← Finset.sum_add_distrib, Finset.card_filter]
  refine Finset.sum_congr rfl fun j _ => ?_
  by_cases h1 : hi j < hi i
  · simp [h1, h1.ne]
  · by_cases h2 : hi j = hi i ∧ lo j < lo i <;> simp [h1, h2]

/-- The same sums taken over the extended reals, of rows that are the digits' indicators. -/
theorem rank_eq (hhi : ∀ j, hi j < 64) (hlo : ∀ j, lo j < 64) (H L : Fin 64 → Fin n → EReal)
    (hH : ∀ a j, H a j = if hi j = a.val then 1 else 0) (hL : ∀ a j, L a j = if lo j = a.val then 1 else 0)
    (i : Fin n) :
    ∑ a : Fin 64, H a i
        * (∑ b : Fin 64, (∑ c : Fin 64, (∑ j, H a j * L c j) * (if c < b then 1 else 0)) * L b i
          + ∑ c : Fin 64, (if c < a then 1 else 0) * ∑ b : Fin 64, ∑ j, H c j * L b j)
      = ((#{j | hi j < hi i ∨ (hi j = hi i ∧ lo j < lo i)} : ℕ) : EReal) := by
  have hist_cast : ∀ a b : Fin 64, ∑ j, H a j * L b j = ((hist hi lo a b : ℕ) : EReal) := by
    intro a b
    unfold hist
    rw [Nat.cast_sum]
    refine Finset.sum_congr rfl fun j _ => ?_
    rw [hH, hL, EReal.natCast_mul]
    push_cast
    rfl
  rw [← nat_rank hi lo hhi hlo i]
  simp only [hist_cast]
  simp only [hH, hL, Nat.cast_sum, EReal.natCast_mul, Nat.cast_add, Nat.cast_ite, Nat.cast_one, Nat.cast_zero]

/-- Where no item's high digit is below 64 the sums are zero. -/
theorem rank_zero (H : Fin 64 → Fin n → EReal) (hH : ∀ a j, H a j = 0) (i : Fin n) (X : Fin 64 → EReal) :
    ∑ a : Fin 64, H a i * X a = 0 :=
  Finset.sum_eq_zero fun a _ => by rw [hH, zero_mul]

end Cert.Rank

end
-- ==== Proof.Bins.lean ====
module

public import proofs.«01_k».proof.Proof.Consts
public import proofs.«01_k».proof.Proof.Rank

@[expose] public section

noncomputable section

/-!
  The bins. A rate's bin is its distance from the least rate, scaled to 0 … 4095.5 and rounded down. Over the extended
  reals either every bin is a natural number below 4096, or every bin is minus infinity (all rates one infinity).
  The two base-64 digits of a bin, as words, and the rank that the digits' one-hot rows give: the number of items of a
  lower bin.
-/

namespace Cert.Bins

open Idealize.ShloMosaic Finset

/-- The factor from rates to bins: 4095.5 over the rates' width, the width kept away from zero. -/
def scale (mn mx : EReal) : EReal :=
  Ideal.div (Ideal.ofBits .f32 0x457FF800#32) (max (mx - mn) (Ideal.ofBits .f32 0x0DA24260#32))

/-- The bin of rate `r` among rates from `mn` to `mx`. -/
def bin (mn mx r : EReal) : EReal := Ideal.liftRound Int.floor ((r - mn) * scale mn mx)

/-- The scale at a real width bound `d > 0`. -/
theorem scale_of_real {mn mx : EReal} {d : ℝ} (hd : 0 < d)
    (h : max (mx - mn) (Ideal.ofBits .f32 0x0DA24260#32) = (d : EReal)) :
    scale mn mx = ((8191 / 2 * (1 / d) : ℝ) : EReal) := by
  unfold scale
  rw [h, Consts.bins_word, Ideal.div_coe hd.ne', EReal.coe_mul]

/-- The scale of an infinite width is zero. -/
theorem scale_of_top {mn mx : EReal} (h : mx - mn = ⊤) : scale mn mx = 0 := by
  unfold scale Ideal.div
  rw [h, max_eq_left le_top, if_neg EReal.top_ne_zero, EReal.inv_top, mul_zero]

/-- The scale is never negative. -/
theorem scale_nonneg (mn mx : EReal) : 0 ≤ scale mn mx := by
  obtain ⟨e, he, hE⟩ := Consts.tiny_word
  by_cases ht : mx - mn = ⊤
  · rw [scale_of_top ht]
  · have h1 : max (mx - mn) (e : EReal) ≠ ⊤ := by
      rcases le_total (mx - mn) (e : EReal) with h | h
      · rw [max_eq_right h]; exact EReal.coe_ne_top e
      · rwa [max_eq_left h]
    have h2 : (e : EReal) ≤ max (mx - mn) (e : EReal) := le_max_right _ _
    have h3 : max (mx - mn) (e : EReal) ≠ ⊥ := fun h => by
      rw [h] at h2; exact absurd (le_bot_iff.mp h2) (EReal.coe_ne_bot e)
    obtain ⟨d, hd⟩ : ∃ d : ℝ, max (mx - mn) (e : EReal) = d := ⟨_, (EReal.coe_toReal h1 h3).symm⟩
    have hd0 : 0 < d := lt_of_lt_of_le he (by rw [hd] at h2; exact EReal.coe_le_coe_iff.mp h2)
    rw [scale_of_real hd0 (hE ▸ hd)]
    exact EReal.coe_nonneg.mpr (by positivity)

/-- Rounding down keeps the order. -/
theorem floor_mono : Monotone (Ideal.liftRound Int.floor) := by
  intro x y h
  induction x with
  | bot => simp
  | top => rw [top_le_iff.mp h]
  | coe a =>
    induction y with
    | bot => exact absurd h (by simp)
    | top => simp
    | coe b =>
      simp only [Ideal.liftRound_coe, EReal.coe_le_coe_iff, Int.cast_le]
      exact Int.floor_le_floor (EReal.coe_le_coe_iff.mp h)

/-- A greater rate has no lower bin. -/
theorem bin_mono (mn mx : EReal) : Monotone (bin mn mx) := fun _ _ h =>
  floor_mono (mul_le_mul_of_nonneg_right (EReal.sub_le_sub h le_rfl) (scale_nonneg mn mx))

/-- Of a family of rates with its least and greatest, the bins are all naturals below 4096, or all minus infinity. -/
theorem bins_cases {n : ℕ} (r : Fin n → EReal) (mn mx : EReal) (hmn : ∀ i, mn ≤ r i) (hmx : ∀ i, r i ≤ mx)
    (amn : ∃ i, r i = mn) (amx : ∃ i, r i = mx) :
    (∀ i, bin mn mx (r i) = ⊥) ∨ ∃ k : Fin n → ℕ, ∀ i, bin mn mx (r i) = ((k i : ℕ) : EReal) ∧ k i < 4096 := by
  obtain ⟨e, he, hE⟩ := Consts.tiny_word
  -- one infinity throughout: the width is minus infinity and so is every distance
  have bad : (mx - mn = ⊥) → (∀ i, r i - mn = ⊥) → ∀ i, bin mn mx (r i) = ⊥ := by
    intro hw hr i
    unfold bin
    rw [hr i, scale_of_real he (by rw [hw, hE]; exact max_eq_right bot_le),
      EReal.bot_mul_coe_of_pos (by positivity), Ideal.liftRound_bot]
  -- an infinite width: every bin is zero
  have flat : mx - mn = ⊤ → ∃ k : Fin n → ℕ, ∀ i, bin mn mx (r i) = ((k i : ℕ) : EReal) ∧ k i < 4096 := by
    intro hw
    refine ⟨fun _ => 0, fun i => ⟨?_, by norm_num⟩⟩
    unfold bin
    rw [scale_of_top hw, mul_zero, ← EReal.coe_zero, Ideal.liftRound_coe]
    simp
  obtain ⟨i0, h0⟩ := amn
  obtain ⟨i1, h1⟩ := amx
  induction mn with
  | top =>
    have hr : ∀ i, r i = ⊤ := fun i => top_le_iff.mp (hmn i)
    have : mx = ⊤ := by rw [← h1, hr]
    subst this
    exact .inl (bad (by simp) (fun i => by rw [hr i]; simp))
  | bot =>
    by_cases hb : mx = ⊥
    · subst hb
      have hr : ∀ i, r i = ⊥ := fun i => le_bot_iff.mp (hmx i)
      exact .inl (bad (by simp) (fun i => by rw [hr i]; simp))
    · exact .inr (flat (by rw [EReal.sub_bot hb]))
  | coe a =>
    induction mx with
    | top => exact .inr (flat (by simp))
    | bot => exact absurd (le_trans (hmn i0) (hmx i0)) (by simp)
    | coe b =>
      refine .inr ?_
      have hr : ∀ i, ∃ c : ℝ, r i = c ∧ a ≤ c ∧ c ≤ b := by
        intro i
        have g1 := hmn i
        have g2 := hmx i
        generalize r i = x at g1 g2
        induction x with
        | bot => exact absurd g1 (by simp)
        | top => exact absurd g2 (by simp)
        | coe c => exact ⟨c, rfl, EReal.coe_le_coe_iff.mp g1, EReal.coe_le_coe_iff.mp g2⟩
      choose c hc using hr
      have hd : max ((b : EReal) - a) (Ideal.ofBits .f32 0x0DA24260#32) = ((max (b - a) e : ℝ) : EReal) := by
        rw [hE, ← EReal.coe_sub]
        exact (EReal.coe_strictMono.monotone.map_max).symm
      have hd0 : 0 < max (b - a) e := lt_of_lt_of_le he (le_max_right _ _)
      have hs := scale_of_real hd0 hd
      refine ⟨fun i => ⌊(c i - a) * (8191 / 2 * (1 / max (b - a) e))⌋.toNat, fun i => ?_⟩
      obtain ⟨hci, hca, hcb⟩ := hc i
      have p0 : 0 ≤ (c i - a) * (8191 / 2 * (1 / max (b - a) e)) :=
        mul_nonneg (sub_nonneg.mpr hca) (by positivity)
      have p1 : (c i - a) * (8191 / 2 * (1 / max (b - a) e)) < 4096 := by
        have : (c i - a) / max (b - a) e ≤ 1 := by
          rw [div_le_one hd0]
          exact le_trans (by linarith) (le_max_left _ _)
        calc _ = (8191 / 2) * ((c i - a) / max (b - a) e) := by ring
          _ ≤ (8191 / 2) * 1 := by gcongr
          _ < 4096 := by norm_num
      have f0 : 0 ≤ ⌊(c i - a) * (8191 / 2 * (1 / max (b - a) e))⌋ := Int.floor_nonneg.mpr p0
      have f1 : ⌊(c i - a) * (8191 / 2 * (1 / max (b - a) e))⌋ < 4096 := Int.floor_lt.mpr (by exact_mod_cast p1)
      refine ⟨?_, by dsimp only; omega⟩
      unfold bin
      rw [hci, hs, ← EReal.coe_sub, ← EReal.coe_mul, Ideal.liftRound_coe]
      have : ((⌊(c i - a) * (8191 / 2 * (1 / max (b - a) e))⌋ : ℤ) : ℝ)
          = ((⌊(c i - a) * (8191 / 2 * (1 / max (b - a) e))⌋.toNat : ℕ) : ℝ) := by
        rw [← Int.cast_natCast, Int.toNat_of_nonneg f0]
      rw [this]
      rfl

end Cert.Bins

end
-- ==== Proof.Digits.lean ====
module

public import proofs.«01_k».proof.Proof.Bins

@[expose] public section

noncomputable section

/-!
  The two base-64 digits of a bin, as 32-bit words, and the rank that the digits' one-hot rows give: for a family of
  bins that are all naturals below 4096, or all minus infinity, it is the number of items of a lower bin.
-/

namespace Cert.Bins

open Idealize.ShloMosaic Finset

/-- The high digit of a bin, as a number. -/
def hiF (q : EReal) : EReal := Ideal.liftRound Int.floor (q * Ideal.ofBits .f32 0x3C800000#32)

/-- The high digit's word. -/
def hiW (q : EReal) : BitVec 32 := Ideal.fptosi 32 (hiF q)

/-- The low digit's word. -/
def loW (q : EReal) : BitVec 32 := Ideal.fptosi 32 (q - hiF q * Ideal.ofBits .f32 0x42800000#32)

/-- Entry `a` of a word's one-hot row. -/
def oneHot (a : ℕ) (w : BitVec 32) : EReal := if BitVec.ofNat 32 a = w then 1 else 0

/-- A small natural converts to its own word. -/
theorem fptosi_nat {n : ℕ} (h : n < 4096) : Ideal.fptosi 32 ((n : ℕ) : EReal) = BitVec.ofNat 32 n := by
  show Ideal.fptosi 32 (((n : ℕ) : ℝ) : EReal) = _
  unfold Ideal.fptosi
  rw [Ideal.toIntClamped_coe, if_pos (by positivity), Int.floor_natCast,
    show max (-(2 ^ (32 - 1) : ℕ) : ℤ) (min ((2 ^ (32 - 1) : ℕ) - 1) (n : ℤ)) = (n : ℤ) by norm_num; omega,
    BitVec.ofInt_natCast]

/-- The high digit of a natural bin. -/
theorem hiF_nat (k : ℕ) : hiF ((k : ℕ) : EReal) = ((k / 64 : ℕ) : EReal) := by
  show Ideal.liftRound Int.floor ((((k : ℕ) : ℝ) : EReal) * _) = (((k / 64 : ℕ) : ℝ) : EReal)
  rw [Consts.inv64_word, ← EReal.coe_mul, Ideal.liftRound_coe]
  have : ⌊((k : ℕ) : ℝ) * (1 / 64)⌋ = ((k / 64 : ℕ) : ℤ) := by
    rw [Int.floor_eq_iff]
    have h1 : ((64 * (k / 64) + k % 64 : ℕ) : ℝ) = k := by rw [Nat.div_add_mod]
    have h2 : ((k % 64 : ℕ) : ℝ) < 64 := by exact_mod_cast Nat.mod_lt k (by norm_num)
    have h3 : (0 : ℝ) ≤ ((k % 64 : ℕ) : ℝ) := by positivity
    rw [Int.cast_natCast]
    push_cast at h1
    constructor <;> linarith
  rw [this, Int.cast_natCast]

/-- The high digit's word of a natural bin. -/
theorem hiW_nat {k : ℕ} (h : k < 4096) : hiW ((k : ℕ) : EReal) = BitVec.ofNat 32 (k / 64) := by
  unfold hiW
  rw [hiF_nat, fptosi_nat (by omega)]

/-- The low digit's word of a natural bin. -/
theorem loW_nat {k : ℕ} (h : k < 4096) : loW ((k : ℕ) : EReal) = BitVec.ofNat 32 (k % 64) := by
  unfold loW
  rw [hiF_nat]
  have : ((k : ℕ) : EReal) - ((k / 64 : ℕ) : EReal) * Ideal.ofBits .f32 0x42800000#32 = ((k % 64 : ℕ) : EReal) := by
    show (((k : ℕ) : ℝ) : EReal) - (((k / 64 : ℕ) : ℝ) : EReal) * _ = (((k % 64 : ℕ) : ℝ) : EReal)
    rw [Consts.w64_word, ← EReal.coe_mul, ← EReal.coe_sub]
    have h1 : ((64 * (k / 64) + k % 64 : ℕ) : ℝ) = k := by rw [Nat.div_add_mod]
    congr 1
    push_cast at h1 ⊢
    linarith
  rw [this, fptosi_nat (by omega)]

/-- The bin minus infinity has no digit. -/
theorem hiW_bot : hiW ⊥ = BitVec.ofNat 32 (2 ^ 31) := by
  unfold hiW hiF
  rw [Consts.inv64_word, EReal.bot_mul_coe_of_pos (by norm_num), Ideal.liftRound_bot]
  unfold Ideal.fptosi
  rw [Ideal.toIntClamped_bot]
  decide

/-- A one-hot row of a small natural's word is the natural's indicator. -/
theorem oneHot_nat {a k : ℕ} (ha : a < 64) (hk : k < 64) : oneHot a (BitVec.ofNat 32 k) = if k = a then 1 else 0 := by
  unfold oneHot
  congr 1
  rw [eq_iff_iff]
  constructor
  · intro h
    have := congrArg BitVec.toNat h
    simp only [BitVec.toNat_ofNat] at this
    omega
  · rintro rfl; rfl

/-- The one-hot row of a bin with no digit is zero. -/
theorem oneHot_bot {a : ℕ} (ha : a < 64) : oneHot a (hiW ⊥) = 0 := by
  unfold oneHot
  rw [hiW_bot, if_neg]
  intro h
  have := congrArg BitVec.toNat h
  simp only [BitVec.toNat_ofNat] at this
  omega

variable {n : ℕ}

/-- The number of items of a lower bin than item `i`'s. -/
def rank (q : Fin n → EReal) (i : Fin n) : ℕ := #{j | q j < q i}

/-- Fewer than all items have a lower bin. -/
theorem rank_lt (q : Fin n → EReal) (i : Fin n) : rank q i < n := by
  have : #{j | q j < q i} < #(Finset.univ : Finset (Fin n)) :=
    Finset.card_lt_card (Finset.ssubset_univ_iff.mpr fun h => by
      have := Finset.mem_univ i
      rw [← h, Finset.mem_filter] at this
      exact lt_irrefl _ this.2)
  simpa [rank] using this

/-- The rank that the digits' one-hot rows give, by a histogram, its prefix sums and a selection, is the number of items
    of a lower bin. -/
theorem rank_of_digits (q : Fin n → EReal)
    (hq : (∀ i, q i = ⊥) ∨ ∃ k : Fin n → ℕ, ∀ i, q i = ((k i : ℕ) : EReal) ∧ k i < 4096) (i : Fin n) :
    ∑ a : Fin 64, oneHot a (hiW (q i))
        * (∑ b : Fin 64, (∑ c : Fin 64, (∑ j, oneHot a (hiW (q j)) * oneHot c (loW (q j))) * (if c < b then 1 else 0))
            * oneHot b (loW (q i))
          + ∑ c : Fin 64, (if c < a then 1 else 0) * ∑ b : Fin 64, ∑ j, oneHot c (hiW (q j)) * oneHot b (loW (q j)))
      = ((rank q i : ℕ) : EReal) := by
  rcases hq with hq | ⟨k, hk⟩
  · rw [Finset.sum_eq_zero fun a _ => by rw [hq i, oneHot_bot a.isLt, zero_mul]]
    simp [rank, hq]
  · have H := Rank.rank_eq (fun j => k j / 64) (fun j => k j % 64) (fun j => by have := (hk j).2; omega)
      (fun j => by omega) (fun a j => oneHot a (hiW (q j))) (fun a j => oneHot a (loW (q j)))
      (fun a j => by rw [(hk j).1, hiW_nat (hk j).2, oneHot_nat a.isLt (by have := (hk j).2; omega)])
      (fun a j => by rw [(hk j).1, loW_nat (hk j).2, oneHot_nat a.isLt (by omega)]) i
    rw [H]
    congr 2
    ext j
    simp only [Finset.mem_filter, Finset.mem_univ, true_and, (hk j).1, (hk i).1, Nat.cast_lt, EReal.natCast_lt_iff]
    omega

end Cert.Bins

end
-- ==== Proof.Loss.lean ====
module

public import proofs.«01_k».proof.Proof.Digits

@[expose] public section

noncomputable section

/-!
  The Huber quantile loss of one neuron, and the loss of a block of neurons by their bins' ranks.
-/

namespace Cert.Loss

open Idealize.ShloMosaic

/-- The loss of a rate `u` above its target at quantile `τ`, with κ = 1/500. -/
def huber (u τ : EReal) : EReal :=
  if max u (-u) ≤ ((1 / 500 : ℝ) : EReal) then
    max (τ - (if u ≤ 0 then 1 else 0)) (-(τ - (if u ≤ 0 then 1 else 0))) * ((250 : ℝ) : EReal) * (u * u)
  else
    max (τ - (if u ≤ 0 then 1 else 0)) (-(τ - (if u ≤ 0 then 1 else 0))) * (max u (-u) - ((1 / 1000 : ℝ) : EReal))

/-- The quantile of rank `k` among 4096. -/
def quantile (k : ℕ) : EReal := (((k : ℕ) : EReal) + 1) * ((1 / 4096 : ℝ) : EReal)

/-- The least of a family of rates. -/
def least {n : ℕ} (r : Fin n → EReal) : EReal := Finset.univ.inf r

/-- The greatest of a family of rates. -/
def greatest {n : ℕ} (r : Fin n → EReal) : EReal := Finset.univ.sup r

/-- The rates' bins. -/
def binOf {n : ℕ} (r : Fin n → EReal) (i : Fin n) : EReal := Bins.bin (least r) (greatest r) (r i)

/-- The rank of rate `i`: how many rates have a lower bin. -/
def rankOf {n : ℕ} (r : Fin n → EReal) (i : Fin n) : ℕ := Bins.rank (binOf r) i

/-- The bins are all naturals below 4096, or all minus infinity. -/
theorem binOf_cases {n : ℕ} [NeZero n] (r : Fin n → EReal) :
    (∀ i, binOf r i = ⊥) ∨ ∃ k : Fin n → ℕ, ∀ i, binOf r i = ((k i : ℕ) : EReal) ∧ k i < 4096 := by
  obtain ⟨i0, -, h0⟩ := Finset.exists_mem_eq_inf Finset.univ ⟨0, Finset.mem_univ _⟩ r
  obtain ⟨i1, -, h1⟩ := Finset.exists_mem_eq_sup Finset.univ ⟨0, Finset.mem_univ _⟩ r
  exact Bins.bins_cases r _ _ (fun i => Finset.inf_le (Finset.mem_univ i)) (fun i => Finset.le_sup (Finset.mem_univ i))
    ⟨i0, h0.symm⟩ ⟨i1, h1.symm⟩

/-- The loss of a block of rates `r`, the target of rank `k` being `target k`. -/
def block (r : Fin 4096 → EReal) (target : ℕ → EReal) : EReal :=
  ∑ i, huber (r i - target (rankOf r i)) (quantile (rankOf r i))

/-- The target of rank `k` on the line from `a` (rank 0) to `b` (rank 4095). -/
def line (a b : EReal) (k : ℕ) : EReal := a + ((k : ℕ) : EReal) * ((b - a) * ((1 / 4095 : ℝ) : EReal))

end Cert.Loss

end
-- ==== Proof.BlockValue.lean ====
module

public import proofs.«01_k».proof.Proof.Blocks
public import proofs.«01_k».proof.Proof.Loss
public import Idealize.ShloMosaic.Lib.Pointwise

@[expose] public section

set_option maxRecDepth 16384

noncomputable section

/-! What the kernel's block functions compute at the extended reals: the neurons' bin ranks and the block's loss. -/

namespace Cert.KernelIdeal.Blocks

open Idealize.ShloMosaic Cert.KernelIdeal Cert.KernelIdeal.Gen

/-- A truth value, widened and converted, is one or zero. -/
theorem truth (p : Bool) : FloatOps.sitofp (F := Ideal) .f32 (BitVec.setWidth 32 (BitVec.ofBool p)) = if p then 1 else 0 := by
  show (((BitVec.setWidth 32 (BitVec.ofBool p)).toInt : ℝ) : EReal) = _
  cases p <;> simp

/-- Comparing two small row numbers. -/
theorem slt_small (a b : Fin 64) : (BitVec.ofNat 32 a.val).slt (BitVec.ofNat 32 b.val) = decide (a < b) := by
  have ha := a.isLt
  have hb := b.isLt
  rw [BitVec.slt_eq_decide, BitVec.toInt_eq_toNat_of_lt (by simp only [BitVec.toNat_ofNat]; omega),
    BitVec.toInt_eq_toNat_of_lt (by simp only [BitVec.toNat_ofNat]; omega)]
  congr 1
  simp only [BitVec.toNat_ofNat, Fin.lt_def, eq_iff_iff]
  omega

/-- Folding `min` from plus infinity over one row of pairs is the least. -/
theorem fold_min (r : Fin 4096 → EReal) :
    Finset.fold min (Ideal.ofBits .f32 0x7F800000#32) (fun p : Fin 1 × Fin 4096 => r p.2) Finset.univ = Loss.least r := by
  rw [Consts.top_word]
  show (Finset.univ : Finset (Fin 1 × Fin 4096)).inf (fun p => r p.2) = Finset.univ.inf r
  exact le_antisymm (Finset.le_inf fun i _ => Finset.inf_le (f := fun p : Fin 1 × Fin 4096 => r p.2) (Finset.mem_univ (0, i)))
    (Finset.le_inf fun p _ => Finset.inf_le (Finset.mem_univ p.2))

/-- Folding `max` from minus infinity over one row of pairs is the greatest. -/
theorem fold_max (r : Fin 4096 → EReal) :
    Finset.fold max (Ideal.ofBits .f32 0xFF800000#32) (fun p : Fin 1 × Fin 4096 => r p.2) Finset.univ
      = Loss.greatest r := by
  rw [Consts.bot_word]
  show (Finset.univ : Finset (Fin 1 × Fin 4096)).sup (fun p => r p.2) = Finset.univ.sup r
  exact le_antisymm (Finset.sup_le fun p _ => Finset.le_sup (Finset.mem_univ p.2))
    (Finset.sup_le fun i _ => Finset.le_sup (f := fun p : Fin 1 × Fin 4096 => r p.2) (Finset.mem_univ (0, i)))

/-- The rates of a block. -/
abbrev row (x : FVec Ideal S1x4096 .f32) (i : Fin 4096) : EReal := x (ix2 0 i)

/-- The kernel's bins. -/
theorem bins_at (x : FVec Ideal S1x4096 .f32) (i : Fin 4096) : bins x (ix2 0 i) = Loss.binOf (row x) i := by
  have h1 := fold_min (row x)
  have h2 := fold_max (row x)
  unfold Loss.binOf Bins.bin Bins.scale
  rw [← h1, ← h2]
  pointwise [bins]

/-- The high digits. -/
theorem high_at (q : FVec Ideal S1x4096 .f32) (i : Fin 4096) : high q (ix2 0 i) = Bins.hiF (q (ix2 0 i)) := by
  pointwise [high, Bins.hiF]

/-- The low digits. -/
theorem low_at (q : FVec Ideal S1x4096 .f32) (i : Fin 4096) :
    low q (ix2 0 i) = q (ix2 0 i) - Bins.hiF (q (ix2 0 i)) * Ideal.ofBits .f32 0x42800000#32 := by
  pointwise [low, high, Bins.hiF]

/-- The one-hot columns. -/
theorem hot_at (d : FVec Ideal S1x4096 .f32) (a : Fin 64) (i : Fin 4096) :
    hot d (ix2 a i) = Bins.oneHot a.val (Ideal.fptosi 32 (d (ix2 0 i))) := by
  have : hot d (ix2 a i) = FloatOps.sitofp (F := Ideal) .f32
      (BitVec.setWidth 32 (BitVec.ofBool (BitVec.ofNat 32 a.val == Ideal.fptosi 32 (d (ix2 0 i))))) := by
    pointwise [hot, rows]
    rfl
  rw [this, truth]
  unfold Bins.oneHot
  simp only [beq_iff_eq]

/-- The weights above the diagonal. -/
theorem upper_at (a b : Fin 64) : k0_pay6 (F := Ideal) (ix2 a b) = if a < b then 1 else 0 := by
  have : k0_pay6 (F := Ideal) (ix2 a b) = FloatOps.sitofp (F := Ideal) .f32
      (BitVec.setWidth 32 (BitVec.ofBool ((BitVec.ofNat 32 a.val).slt (BitVec.ofNat 32 b.val)))) := by
    pointwise [k0_pay6]
    rfl
  rw [this, truth, slt_small]
  simp

/-- The weights below the diagonal. -/
theorem lower_at (a b : Fin 64) : k0_pay7 (F := Ideal) (ix2 a b) = if b < a then 1 else 0 := by
  have : k0_pay7 (F := Ideal) (ix2 a b) = FloatOps.sitofp (F := Ideal) .f32
      (BitVec.setWidth 32 (BitVec.ofBool ((BitVec.ofNat 32 b.val).slt (BitVec.ofNat 32 a.val)))) := by
    pointwise [k0_pay7]
    rfl
  rw [this, truth, slt_small]
  simp

/-- The counts of digit pairs. -/
theorem counts_at (H L : FVec Ideal S64x4096 .f32) (a c : Fin 64) :
    counts H L (ix2 a c) = ∑ j, H (ix2 a j) * L (ix2 c j) := by
  pointwise [counts]

/-- The weighted counts along rows. -/
theorem along_at (M U : FVec Ideal S64x64 .f32) (a b : Fin 64) :
    along M U (ix2 a b) = ∑ c, M (ix2 a c) * U (ix2 c b) := by
  pointwise [along]

/-- The weighted counts of whole rows. -/
theorem above_at (M V : FVec Ideal S64x64 .f32) (a : Fin 64) :
    above M V (ix2 a 0) = ∑ c, V (ix2 a c) * ∑ b, M (ix2 c b) := by
  pointwise [above]

/-- The entries picked by the digits. -/
theorem picked_at (H L : FVec Ideal S64x4096 .f32) (P : FVec Ideal S64x64 .f32) (Q : FVec Ideal S64x1 .f32)
    (i : Fin 4096) :
    picked H L P Q (ix2 0 i) = ∑ a, H (ix2 a i) * ((∑ b, P (ix2 a b) * L (ix2 b i)) + Q (ix2 a 0)) := by
  pointwise [picked]

/-- The kernel's ranks: for each neuron, how many have a lower bin. -/
theorem ranks_at (x : FVec Ideal S1x4096 .f32) (i : Fin 4096) :
    ranks x (ix2 0 i) = ((Loss.rankOf (row x) i : ℕ) : EReal) := by
  unfold ranks ranksOf
  have hH : ∀ (a : Fin 64) (j : Fin 4096),
      hot (high (bins x)) (ix2 a j) = Bins.oneHot a.val (Bins.hiW (Loss.binOf (row x) j)) := fun a j => by
    rw [hot_at, high_at, bins_at]; rfl
  have hL : ∀ (a : Fin 64) (j : Fin 4096),
      hot (low (bins x)) (ix2 a j) = Bins.oneHot a.val (Bins.loW (Loss.binOf (row x) j)) := fun a j => by
    rw [hot_at, low_at, bins_at]; rfl
  simp only [picked_at, along_at, above_at, counts_at, upper_at, lower_at, hH, hL]
  exact Bins.rank_of_digits (Loss.binOf (row x)) (Loss.binOf_cases (row x)) i

/-- The target on the kernel's line, at rank `k`. -/
theorem addLoss_at (t : FVec Ideal S1x1 .f32) (x : FVec Ideal S1x4096 .f32) (a b : Vec Ideal S1x1 .f32) :
    addLoss t x a b (ix2 0 0)
      = t (ix2 0 0) + Loss.block (row x) (Loss.line (a (ix2 0 0)) (b (ix2 0 0))) := by
  have hk := IdealRules.named_const.ideal_named_scalar κ "kappa" (φ := .f32) 0x3B03126F#32 _ rfl
  have hh := IdealRules.named_const.ideal_named_scalar κ "half_kappa" (φ := .f32) 0x3A83126F#32 _ rfl
  have hl := IdealRules.named_const.ideal_named_scalar κ "inv_last" (φ := .f32) 0x39800801#32 _ rfl
  have hr := ranks_at x
  unfold addLoss
  generalize ranks x = r at hr
  pointwise [k0_pay32]
  simp only [hk, hh, hl, hr, truth, Finset.univ_unique, Finset.sum_singleton, Consts.w4096_word, Consts.w250_word,
    Ideal.div_coe (show (4096 : ℝ) ≠ 0 by norm_num), decide_eq_true_eq]
  congr 1
  refine Finset.sum_congr rfl fun i _ => ?_
  unfold Loss.huber Loss.line Loss.quantile
  simp only [mul_assoc]
  rfl

end Cert.KernelIdeal.Blocks

end
-- ==== Proof.Spec.lean ====
module

public import proofs.«01_k».proof.Proof.Loss

@[expose] public section

noncomputable section

/-! The value both programs have, over the entries of the arguments. -/

namespace Cert.Spec

open Cert.Loss

/-- A neuron's rate: the mean of its spikes over the 4 batches and the 512 times. -/
def rate (x : Fin 4 → Fin 512 → Fin 16384 → EReal) (k : Fin 16384) : EReal := (∑ a, ∑ b, x a b k) * ((1 / 2048 : ℝ) : EReal)

/-- The neuron numbered `i` within its type `b`. -/
def neuron (b : Fin 4) (i : Fin 4096) : Fin 16384 := ⟨4096 * b.val + i.val, by omega⟩

/-- The rates of type `b`. -/
def rates (x : Fin 4 → Fin 512 → Fin 16384 → EReal) (b : Fin 4) (i : Fin 4096) : EReal := rate x (neuron b i)

/-- The loss: over the four types, with the targets on the line through the first and the last. -/
def loss (x : Fin 4 → Fin 512 → Fin 16384 → EReal) (t : Fin 4 → Fin 4096 → EReal) : EReal :=
  (∑ b, block (rates x b) (line (t b 0) (t b 4095))) * ((1 / 16384 : ℝ) : EReal)

/-- Summing over 16 groups of 128 rows is summing over the 4 batches and the 512 times, whose row is `512 a + b`. -/
theorem sum_rows (f : ℕ → EReal) : ∑ s ∈ Finset.range 16, ∑ r : Fin 128, f (128 * s + r.val) = ∑ a : Fin 4, ∑ b : Fin 512, f (512 * a.val + b.val) := by
  have key (n p : ℕ) : ∑ s ∈ Finset.range n, ∑ r ∈ Finset.range p, f (p * s + r) = ∑ k ∈ Finset.range (p * n), f k := by
    induction n with
    | zero => simp
    | succ n ih => rw [Finset.sum_range_succ, ih, Nat.mul_succ, Finset.sum_range_add]
  have inner (p s : ℕ) : ∑ r ∈ Finset.range p, f (p * s + r) = ∑ r : Fin p, f (p * s + r.val) := Finset.sum_range _
  have h1 := key 16 128
  have h2 := key 4 512
  rw [Finset.sum_range (n := 4)] at h2
  simp only [inner] at h1 h2
  rw [h1, h2]

end Cert.Spec

end
-- ==== Proof.Array.lean ====
module

public import proofs.«01_k».proof.Proof.Points
public import proofs.«01_k».proof.Proof.BlockValue
public import proofs.«01_k».proof.Proof.Spec
public import Idealize.ShloMosaic.Lib.StableHlo.Run

@[expose] public section

set_option maxRecDepth 16384

noncomputable section

/-! What the kernel's result array holds, over the entries of the arguments. -/

namespace Cert.KernelIdeal.Whole

open Idealize.ShloMosaic Idealize.ShloMosaic.TcCoe Cert.KernelIdeal Cert.KernelIdeal.Gen Cert.KernelIdeal.Value

variable (m : (ℓ : Loc nD τ sig) → Buf (Elt Ideal) ℓ)

/-- The spikes as the kernel is given them: the batches and the times as one axis of rows. -/
theorem V_main_v0 (c : Dev nD) :
    V m c main_v0 = shapeCast S2048x16384 (m ((c : Thread nD τ).loc main_arg0) : Vec Ideal S4x512x16384 .f32) shapeCasts_S4x512x16384_S2048x16384 := by
  show StableHlo.after hostOps0 _ (Proc.devRef .tc main_v0) = _
  after_results
  rfl

/-- One type's targets as a row. -/
def asRow (t : Vec Ideal S4096 .f32) : Vec Ideal S1x4096 .f32 := broadcastInDim S1x4096 ![1] bcast_S4096_S1x4096_1 t

/-- The four types' targets, one below the other. -/
def stacked (t0 t1 t2 t3 : Vec Ideal S4096 .f32) : Vec Ideal S4x4096 .f32 :=
  concatenate S4x4096 0 [⟨S1x4096, asRow t0⟩, ⟨S1x4096, asRow t1⟩, ⟨S1x4096, asRow t2⟩, ⟨S1x4096, asRow t3⟩] concatenates_S1x4096_S1x4096_S1x4096_S1x4096_S4x4096_d0

/-- The targets as the kernel is given them. -/
theorem V_main_v5 (c : Dev nD) :
    V m c main_v5 = stacked (m ((c : Thread nD τ).loc main_arg5)) (m ((c : Thread nD τ).loc main_arg6))
      (m ((c : Thread nD τ).loc main_arg7)) (m ((c : Thread nD τ).loc main_arg8)) := by
  show StableHlo.after hostOps0 _ (Proc.devRef .tc main_v5) = _
  after_results
  rfl

/-- The entry of the targets of type `b` numbered `k`. -/
theorem stacked_at (t0 t1 t2 t3 : Vec Ideal S4096 .f32) (b : Fin 4) (k : Fin 4096) :
    stacked t0 t1 t2 t3 (ix2 b k) = (![t0, t1, t2, t3] b) (ix1 k) := by
  fin_cases b <;> (pointwise [stacked, asRow])

/-- Step `t` reads the `t`-th group of rows, whole. -/
theorem idx_rows : ∀ t : Fin grid0.N, win0_0.index t 0 = t.val ∧ win0_0.index t 1 = 0 := by decide +kernel
/-- Every step reads all the targets. -/
theorem idx_targets : ∀ t : Fin grid0.N, win0_1.index t 0 = 0 ∧ win0_1.index t 1 = 0 := by decide +kernel

/-- The entries of the spikes. -/
def entries (x : Vec Ideal S4x512x16384 .f32) (a : Fin 4) (b : Fin 512) (k : Fin 16384) : EReal := x (ix3 a b k)

/-- Row `n` of the 2048 is batch `n / 512`, time `n % 512`. -/
theorem rows_at (x : Vec Ideal S4x512x16384 .f32) (n : Fin 2048) (k : Fin 16384) :
    shapeCast S2048x16384 x shapeCasts_S4x512x16384_S2048x16384 (ix2 n k)
      = entries x ⟨n.val / 512, by omega⟩ ⟨n.val % 512, by omega⟩ k := by
  pointwise [entries]

/-- The spike in row `n` of the 2048, of neuron `k`. -/
def spike (x : Vec Ideal S4x512x16384 .f32) (n : ℕ) (k : Fin 16384) : EReal :=
  if h : n < 2048 then entries x ⟨n / 512, by omega⟩ ⟨n % 512, by omega⟩ k else 0

/-- Row `r` of the spikes a point reads is row `128 t + r`. -/
theorem block_rows (c : Dev nD) (t : Fin cfg0.N) (r : Fin 128) (k : Fin 16384) :
    (iblk m c 0 t : Vec Ideal S128x16384 .f32) (ix2 r k) = spike (m ((c : Thread nD τ).loc main_arg0)) (128 * t.val + r.val) k := by
  have hi := idx_rows t
  have ht : t.val < 16 := lt_of_lt_of_eq t.isLt N_0
  have hlt : 128 * t.val + r.val < 2048 := by omega
  have e : (iblk m c 0 t : Vec Ideal S128x16384 .f32) (ix2 r k) = (V m c main_v0 : Vec Ideal S2048x16384 .f32) (ix2 ⟨128 * t.val + r.val, hlt⟩ k) := by
    unfold iblk
    rw [View.read_apply]
    show V m c main_v0 _ = _
    congr 1
    funext a
    apply Fin.ext
    match a with
    | ⟨0, _⟩ => show win0_0.index t 0 * 128 + 1 * r.val = 128 * t.val + r.val; rw [hi.1]; omega
    | ⟨1, _⟩ => show win0_0.index t 1 * 16384 + 1 * k.val = k.val; rw [hi.2]; omega
  rw [e, V_main_v0, spike, dif_pos hlt]
  exact rows_at _ _ _

/-- Every point reads all the targets. -/
theorem block_targets (c : Dev nD) (t : Fin cfg0.N) :
    (iblk m c 1 t : Vec Ideal S4x4096 .f32) = (V m c main_v5 : Vec Ideal S4x4096 .f32) := by
  have hi := idx_targets t
  funext j
  unfold iblk
  rw [View.read_apply]
  show V m c main_v5 _ = _
  congr 1
  funext a
  apply Fin.ext
  match a with
  | ⟨0, _⟩ => show win0_1.index t 0 * 4 + 1 * (j 0).val = (j 0).val; rw [hi.1]; omega
  | ⟨1, _⟩ => show win0_1.index t 1 * 4096 + 1 * (j 1).val = (j 1).val; rw [hi.2]; omega

/-- Adding a point's rows to the sums so far. -/
theorem add_rows (xs : Vec Ideal S1x16384 .f32) (x0 : Vec Ideal S128x16384 .f32) (k : Fin 16384) :
    k0_pay2 xs x0 (ix2 0 k) = xs (ix2 0 k) + ∑ r : Fin 128, x0 (ix2 r k) := by
  pointwise [k0_pay2]

/-- The sums start at zero. -/
theorem zero_rows (k : Fin 16384) : k0_pay1 (F := Ideal) (ix2 0 k) = 0 := by
  pointwise [k0_pay1]

/-- After point `n`, before the last, the scratch holds the sums of the first `128 (n + 1)` rows. -/
theorem sums_after (c : Dev nD) (k : Fin 16384) (n : ℕ) (h : n < cfg0.N) (hn : n < 15) :
    (outsAt0 m c n h).2 (ix2 0 k) = ∑ s ∈ Finset.range (n + 1), ∑ r : Fin 128, spike (m ((c : Thread nD τ).loc main_arg0)) (128 * s + r.val) k := by
  induction n with
  | zero =>
    rw [outsAt0_zero, stAt0_A m c ⟨0, h⟩ _ rfl (by show ¬(0 % 16 = 15); omega)]
    dsimp only
    rw [Points.sums_A, add_rows, zero_rows, zero_add, Finset.sum_range_one]
    exact Finset.sum_congr rfl fun r _ => block_rows m c ⟨0, h⟩ r k
  | succ n ih =>
    rw [outsAt0_succ, stAt0_B m c ⟨n + 1, h⟩ _ (by show ¬((n + 1) % 16 = 0); omega) (by show ¬((n + 1) % 16 = 15); omega)]
    dsimp only
    rw [Points.sums_B, add_rows, ih _ (by omega), Finset.sum_range_succ _ (n + 1)]
    congr 1
    exact Finset.sum_congr rfl fun r _ => block_rows m c ⟨n + 1, h⟩ r k

/-- The sums of all the rows, as the last point has them. -/
def sums (c : Dev nD) : Vec Ideal S1x16384 .f32 :=
  k0_pay2 (outsAt0 m c 14 (lt_of_lt_of_eq (by decide) N_0.symm)).2 (iblk m c 0 ⟨15, lt_of_lt_of_eq (by decide) N_0.symm⟩)

/-- They are the sums over the batches and the times. -/
theorem sums_at (c : Dev nD) (k : Fin 16384) :
    sums m c (ix2 0 k) = ∑ a, ∑ b, entries (m ((c : Thread nD τ).loc main_arg0)) a b k := by
  rw [sums, add_rows, sums_after m c k 14 _ (by omega)]
  have e := Finset.sum_range_succ (fun s => ∑ r : Fin 128, spike (m ((c : Thread nD τ).loc main_arg0)) (128 * s + r.val) k) 15
  refine (congrArg (fun f : Fin 128 → EReal => _ + ∑ r, f r) (funext fun r => block_rows m c ⟨15, _⟩ r k)).trans (e.symm.trans ?_)
  rw [Spec.sum_rows fun n => spike (m ((c : Thread nD τ).loc main_arg0)) n k]
  refine Finset.sum_congr rfl fun a _ => Finset.sum_congr rfl fun b _ => ?_
  have ha := a.isLt
  have hb := b.isLt
  rw [spike, dif_pos (by omega)]
  congr 2
  · omega
  · omega

/-- The result is the loss of those sums. -/
theorem result_sums (c : Dev nD) : G2 m c = Points.lossOf (sums m c) (V m c main_v5) := by
  have h15 : 15 < cfg0.N := lt_of_lt_of_eq (by decide) N_0.symm
  rw [G2_last, ← outsAt0_sweep m c 15 h15, outsAt0_succ m c 14 h15,
    stAt0_C m c ⟨15, h15⟩ _ (by show ¬(15 % 16 = 0); omega) rfl]
  dsimp only
  rw [Points.out_C, block_targets]
  rfl

/-- The number a load of one target reads. -/
theorem target_at (x1 : Vec Ideal S4x4096 .f32) (b : Fin 4) (k : Fin 4096)
    (h : ∀ a, (![b.val, k.val] : Fin 2 → Nat) a + S1x1.size a ≤ S4x4096.size a) :
    Points.target x1 b.val k.val h (ix2 0 0) = x1 (ix2 b k) := by
  unfold Points.target View.ld
  congr 1
  funext a
  apply Fin.ext
  match a with
  | ⟨0, _⟩ => show b.val + 1 * 0 = b.val; omega
  | ⟨1, _⟩ => show k.val + 1 * 0 = k.val; omega

/-- The mean of summed spikes. -/
def mean (s : Vec Ideal S1x16384 .f32) (k : Fin 16384) : EReal := s (ix2 0 k) * ((1 / 2048 : ℝ) : EReal)

/-- The kernel's means, entry by entry. -/
theorem mean_at (s : Vec Ideal S1x16384 .f32) (k : Fin 16384) : k0_pay4 s (ix2 0 k) = mean s k := by
  pointwise [k0_pay4, mean]
  rw [Consts.inv2048_word]

/-- The rates of the four types, cut out of all the rates. -/
theorem cut0 (s : Vec Ideal S1x16384 .f32) : Blocks.row (k0_pay8 s) = fun i => mean s (Spec.neuron 0 i) := by
  funext i
  rw [← mean_at]
  pointwise [Blocks.row, k0_pay8, Spec.neuron]
/-- The second type's rates. -/
theorem cut1 (s : Vec Ideal S1x16384 .f32) : Blocks.row (k0_pay21 (k0_pay4 s)) = fun i => mean s (Spec.neuron 1 i) := by
  funext i
  rw [← mean_at]
  pointwise [Blocks.row, k0_pay21, Spec.neuron]
/-- The third type's rates. -/
theorem cut2 (s : Vec Ideal S1x16384 .f32) : Blocks.row (k0_pay30 (k0_pay4 s)) = fun i => mean s (Spec.neuron 2 i) := by
  funext i
  rw [← mean_at]
  pointwise [Blocks.row, k0_pay30, Spec.neuron]
/-- The fourth type's rates. -/
theorem cut3 (s : Vec Ideal S1x16384 .f32) : Blocks.row (k0_pay33 (k0_pay4 s)) = fun i => mean s (Spec.neuron 3 i) := by
  funext i
  rw [← mean_at]
  pointwise [Blocks.row, k0_pay33, Spec.neuron]

/-- The loss of summed spikes, over the means. -/
theorem lossOf_at (s : Vec Ideal S1x16384 .f32) (x1 : Vec Ideal S4x4096 .f32) :
    Points.lossOf s x1 (ix2 0 0) = (∑ b : Fin 4, Loss.block (fun i => mean s (Spec.neuron b i)) (Loss.line (x1 (ix2 b 0)) (x1 (ix2 b 4095))))
      * ((1 / 16384 : ℝ) : EReal) := by
  have e00 := target_at x1 0 0 inb_S4x4096_S1x1_0_0
  have e01 := target_at x1 0 4095 inb_S4x4096_S1x1_0_4095
  have e10 := target_at x1 1 0 inb_S4x4096_S1x1_1_0
  have e11 := target_at x1 1 4095 inb_S4x4096_S1x1_1_4095
  have e20 := target_at x1 2 0 inb_S4x4096_S1x1_2_0
  have e21 := target_at x1 2 4095 inb_S4x4096_S1x1_2_4095
  have e30 := target_at x1 3 0 inb_S4x4096_S1x1_3_0
  have e31 := target_at x1 3 4095 inb_S4x4096_S1x1_3_4095
  have hzero : k0_pay5 (F := Ideal) (ix2 0 0) = 0 := by pointwise [k0_pay5]
  rw [Fin.sum_univ_four, ← e00, ← e01, ← e10, ← e11, ← e20, ← e21, ← e30, ← e31, ← cut0, ← cut1, ← cut2, ← cut3, ← Consts.inv16384_word]
  unfold Points.lossOf
  show Blocks.addLoss _ _ _ _ (ix2 0 0) * _ = _
  rw [Blocks.addLoss_at, Blocks.addLoss_at, Blocks.addLoss_at, Blocks.addLoss_at, hzero, zero_add]
  rfl

/-- The targets of the four types. -/
def targets (t0 t1 t2 t3 : Vec Ideal S4096 .f32) (b : Fin 4) (k : Fin 4096) : EReal := (![t0, t1, t2, t3] b) (ix1 k)

/-- THE KERNEL'S RESULT: the loss of the arguments. -/
theorem result (c : Dev nD) : G2 m c = fun _ => Spec.loss (entries (m ((c : Thread nD τ).loc main_arg0)))
    (targets (m ((c : Thread nD τ).loc main_arg5)) (m ((c : Thread nD τ).loc main_arg6))
      (m ((c : Thread nD τ).loc main_arg7)) (m ((c : Thread nD τ).loc main_arg8))) := by
  rw [result_sums]
  funext i
  obtain rfl : i = ix2 0 0 := by
    funext a
    match a with
    | ⟨0, _⟩ => exact Subsingleton.elim (α := Fin 1) _ _
    | ⟨1, _⟩ => exact Subsingleton.elim (α := Fin 1) _ _
  have hs : mean (sums m c) = Spec.rate (entries (m ((c : Thread nD τ).loc main_arg0))) := by
    funext k
    rw [mean, sums_at, Spec.rate]
  rw [lossOf_at, V_main_v5, hs]
  simp only [stacked_at]
  rfl

end Cert.KernelIdeal.Whole

end
-- ==== Proof.Pieces.lean ====
module

public import proofs.«01_k».proof.Proof.Gen.BinnedIdeal
public import Idealize.ShloMosaic.Lib.Pointwise

@[expose] public section

noncomputable section

/-! The steps the references (and the preconditions) are made of, named. -/

namespace Cert.Pieces

open Idealize.ShloMosaic Cert.BinnedIdeal Cert.BinnedIdeal.Gen

variable {F : FTy → Type} [FloatOps F]

/-- Four rows, one below the other. -/
def stack {α : Type} (t0 t1 t2 t3 : S4096.Idx → α) : S4x4096.Idx → α :=
  concatenate S4x4096 0 [⟨S1x4096, broadcastInDim S1x4096 ![1] bcast_S4096_S1x4096_1 t0⟩,
    ⟨S1x4096, broadcastInDim S1x4096 ![1] bcast_S4096_S1x4096_1 t1⟩, ⟨S1x4096, broadcastInDim S1x4096 ![1] bcast_S4096_S1x4096_1 t2⟩,
    ⟨S1x4096, broadcastInDim S1x4096 ![1] bcast_S4096_S1x4096_1 t3⟩] concatenates_S1x4096_S1x4096_S1x4096_S1x4096_S4x4096_d0

/-- The means over the batches and the times. -/
def means (x : FVec F S4x512x16384 .f32) : FVec F S16384 .f32 :=
  Host.divf (Host.reduceAdd x (constant S_ .f32 0x00000000#32) reducesTo_S4x512x16384_S16384_d0_1 h_S_)
    (broadcastInDim S16384 ![] bcast_S_S16384 (constant S_ .f32 0x45000000#32))

/-- An index counted from the end, where it is negative, of `n` entries. -/
def wrapped (n : BitVec 32) (w : IVec S4x4096 32) : IVec S4x4096 32 :=
  select (cmpi .slt w (broadcastInDim S4x4096 ![] bcast_S_S4x4096 (constantI S_ 32 0#32)))
    (addi w (broadcastInDim S4x4096 ![] bcast_S_S4x4096 (constantI S_ 32 n))) w

/-- Which indices lie between 0 and `n`, both counted. -/
def within (n : BitVec 32) (w : IVec S4x4096x1 32) : IVec S4x4096 1 :=
  Host.reduce IntOp.andi (andi (cmpi .sge w (broadcastInDim S4x4096x1 ![] bcast_S_S4x4096x1 (constantI S_ 32 0#32)))
      (cmpi .sle w (broadcastInDim S4x4096x1 ![0, 1, 2] bcast_S1x1x1_S4x4096x1_0_1_2
        (broadcastInDim S1x1x1 ![2] bcast_S1_S1x1x1_2 (constantI S1 32 n)))))
    (constantI S_ 1 1#1) reducesTo_S4x4096x1_S4x4096_d2 h_S_

/-- Not a number, everywhere. -/
def missing : FVec F S4x4096 .f32 := broadcastInDim S4x4096 ![] bcast_S_S4x4096 (constant S_ .f32 0x7FC00000#32)

/-- Entries of a vector, taken at indices. -/
def taken (v : FVec F S16384 .f32) (ids : IVec S4x4096 32) : FVec F S4x4096 .f32 :=
  select (within 16383#32 (broadcastInDim S4x4096x1 ![0, 1] bcast_S4x4096_S4x4096x1_0_1 (wrapped 16384#32 ids)))
    (Host.gather gather_S16384_S4x4096x1_S4x4096_n_0_n_n_0_2_1 v
      (broadcastInDim S4x4096x1 ![0, 1] bcast_S4x4096_S4x4096x1_0_1 (wrapped 16384#32 ids)))
    missing

/-- Entries of each row, taken at that row's indices. -/
def matched (t : FVec F S4x4096 .f32) (w : IVec S4x4096 32) : FVec F S4x4096 .f32 :=
  select (within 4095#32 (shapeCast S4x4096x1 (wrapped 4096#32 w) shapeCasts_S4x4096_S4x4096x1))
    (Host.gather gather_S4x4096_S4x4096x1_S4x4096_n_1_0_0_1_2_11 t (shapeCast S4x4096x1 (wrapped 4096#32 w) shapeCasts_S4x4096_S4x4096x1))
    missing

/-- Each row's least entry. -/
def lows (r : FVec F S4x4096 .f32) : FVec F S4x1 .f32 :=
  broadcastInDim S4x1 ![0] bcast_S4_S4x1_0 (Host.reduce FloatOps.minimumf r (constant S_ .f32 0x7F800000#32) reducesTo_S4x4096_S4_d1 h_S_)

/-- Each row's greatest entry. -/
def highs (r : FVec F S4x4096 .f32) : FVec F S4x1 .f32 :=
  broadcastInDim S4x1 ![0] bcast_S4_S4x1_0 (Host.reduce FloatOps.maximumf r (constant S_ .f32 0xFF800000#32) reducesTo_S4x4096_S4_d1 h_S_)

/-- Bins per unit of rate, from each row's least and greatest entry. -/
def scales (l h : FVec F S4x1 .f32) : FVec F S4x1 .f32 :=
  Host.divf (broadcastInDim S4x1 ![] bcast_S_S4x1 (constant S_ .f32 0x457FF800#32))
    (maximumf (subf h l) (broadcastInDim S4x1 ![] bcast_S_S4x1 (constant S_ .f32 0x0DA24260#32)))

/-- The bin of each entry. -/
def binned (r : FVec F S4x4096 .f32) (l s : FVec F S4x1 .f32) : FVec F S4x4096 .f32 :=
  Host.floor (mulf (subf r (broadcastInDim S4x4096 ![0, 1] bcast_S4x1_S4x4096_0_1 l)) (broadcastInDim S4x4096 ![0, 1] bcast_S4x1_S4x4096_0_1 s))

/-- The bins of a matrix of rates. -/
def bins (r : FVec F S4x4096 .f32) : FVec F S4x4096 .f32 := binned r (lows r) (scales (lows r) (highs r))

/-- Whether an entry's bin is lower than another's. -/
def below (q : FVec F S4x4096 .f32) : IVec S4x4096x4096 1 :=
  cmpf .olt
    (broadcastInDim S4x4096x4096 ![0, 1, 2] bcast_S4x1x4096_S4x4096x4096_0_1_2 (broadcastInDim S4x1x4096 ![0, 2] bcast_S4x4096_S4x1x4096_0_2 q))
    (broadcastInDim S4x4096x4096 ![0, 1, 2] bcast_S4x4096x1_S4x4096x4096_0_1_2 (broadcastInDim S4x4096x1 ![0, 1] bcast_S4x4096_S4x4096x1_0_1 q))

/-- The number of entries of the row in a lower bin. -/
def ranks (q : FVec F S4x4096 .f32) : IVec S4x4096 32 :=
  Host.reduce IntOp.addi (extui 32 (below q) natLt_1_32) (constantI S_ 32 0#32) reducesTo_S4x4096x4096_S4x4096_d2 h_S_

/-- The quantile of a rank. -/
def quantiles (w : IVec S4x4096 32) : FVec F S4x4096 .f32 :=
  Host.divf (sitofp .f32 (addi w (broadcastInDim S4x4096 ![] bcast_S_S4x4096 (constantI S_ 32 1#32))))
    (broadcastInDim S4x4096 ![] bcast_S_S4x4096 (constant S_ .f32 0x45800000#32))

/-- The reach of the quadratic part. -/
def kappa : FVec F S_ .f32 := Host.divf (constant S_ .f32 0x40000000#32) (constant S_ .f32 0x447A0000#32)

/-- The weight of an error at a quantile. -/
def weights (u τ : FVec F S4x4096 .f32) : FVec F S4x4096 .f32 :=
  Host.absf (subf τ (uitofp .f32 (cmpf .ole u (broadcastInDim S4x4096 ![] bcast_S_S4x4096 (constant S_ .f32 0x00000000#32)))))

/-- The loss of each error, from its size and its weight. -/
def losses (u a n : FVec F S4x4096 .f32) : FVec F S4x4096 .f32 :=
  select (cmpf .ole a (broadcastInDim S4x4096 ![] bcast_S_S4x4096 kappa))
    (mulf (Host.divf n (broadcastInDim S4x4096 ![] bcast_S_S4x4096 (mulf (constant S_ .f32 0x40000000#32) kappa))) (mulf u u))
    (mulf n (subf a (broadcastInDim S4x4096 ![] bcast_S_S4x4096 (mulf (constant S_ .f32 0x3F000000#32) kappa))))

/-- The mean over all the entries, as a matrix of one. -/
def average (l : FVec F S4x4096 .f32) : FVec F S1x1 .f32 :=
  shapeCast S1x1 (Host.divf (Host.reduceAdd l (constant S_ .f32 0x00000000#32) reducesTo_S4x4096_S_d0_1 h_S_) (constant S_ .f32 0x46800000#32))
    shapeCasts_S_S1x1

/-- The loss of errors at quantiles. -/
def lossOf (u τ : FVec F S4x4096 .f32) : FVec F S1x1 .f32 := average (losses u (Host.absf u) (weights u τ))

/-- The loss of rates against the targets of their ranks among bins. -/
def binnedLoss (r t : FVec F S4x4096 .f32) (w : IVec S4x4096 32) : FVec F S1x1 .f32 := lossOf (subf r (matched t w)) (quantiles w)

end Cert.Pieces

end
-- ==== Proof.PiecesValue.lean ====
module

public import proofs.«01_k».proof.Proof.Pieces
public import proofs.«01_k».proof.Proof.Spec
public import proofs.«01_k».proof.Proof.Consts
public import Idealize.ShloMosaic.Lib.IndicatorCount
public import Idealize.ShloMosaic.Lib.ReduceAll
public import Idealize.ShloMosaic.Lib.ValueIdxCore
public import Idealize.ShloMosaic.Lib.StableHlo.Predicate

@[expose] public section

set_option maxRecDepth 16384

noncomputable section

/-! What the steps of the references compute, entry by entry, over the extended reals. -/

namespace Cert.Pieces

open Idealize.ShloMosaic Cert.BinnedIdeal Cert.BinnedIdeal.Gen

/-- Row `b` of a stack is the `b`-th vector. -/
theorem stack_at {α : Type} (t0 t1 t2 t3 : S4096.Idx → α) (b : Fin 4) (k : Fin 4096) :
    stack t0 t1 t2 t3 (ix2 b k) = (![t0, t1, t2, t3] b) (ix1 k) := by
  fin_cases b <;> (pointwise [stack])

/-- The sum over the batches and the times of one neuron. -/
theorem total_at (x : S4x512x16384.Idx → EReal) (z : EReal) (k : Fin 16384) :
    Ideal.hostReduceAdd reducesTo_S4x512x16384_S16384_d0_1 x z (ix1 k)
      = z + ∑ a : Fin 4, ∑ b : Fin 512, x (ix3 a b k) := by
  have hd : ∀ i : S4x512x16384.Idx, reducesTo_S4x512x16384_S16384_d0_1.drop i = ix1 k ↔ i 2 = k := fun i => by
    have hv : (reducesTo_S4x512x16384_S16384_d0_1.drop i 0 : ℕ) = i 2 := Shape.ReducesTo.drop_apply_val _ i 0
    constructor
    · intro e
      rw [e] at hv
      exact Fin.ext hv.symm
    · intro e
      funext c
      obtain rfl : c = 0 := Subsingleton.elim _ _
      exact Fin.ext (hv.trans (congrArg Fin.val e))
  unfold Ideal.hostReduceAdd
  rw [← Fintype.sum_prod_type']
  refine congrArg (fun s : EReal => z + s) ?_
  refine Finset.sum_bij' (fun i _ => ((i 0, i 1) : Fin 4 × Fin 512)) (fun p _ => ix3 p.1 p.2 k) (fun _ _ => Finset.mem_univ _)
    (fun p _ => Finset.mem_filter.2 ⟨Finset.mem_univ _, (hd _).2 rfl⟩) ?_ (fun _ _ => rfl) ?_
  · intro i hi
    have e := (hd i).1 (Finset.mem_filter.1 hi).2
    funext c
    match c with
    | ⟨0, _⟩ => rfl
    | ⟨1, _⟩ => rfl
    | ⟨2, _⟩ => exact e.symm
  · intro i hi
    have e := (hd i).1 (Finset.mem_filter.1 hi).2
    refine congrArg x ?_
    funext c
    match c with
    | ⟨0, _⟩ => rfl
    | ⟨1, _⟩ => rfl
    | ⟨2, _⟩ => exact e

/-- The mean of one neuron is its rate. -/
theorem means_at (x : FVec Ideal S4x512x16384 .f32) (k : Fin 16384) :
    means x (ix1 k) = Spec.rate (fun a b k => x (ix3 a b k)) k := by
  pointwise [means]
  rw [total_at, zero_add, Consts.w2048_word, Ideal.div_coe (by norm_num)]
  rfl

/-- A word that is no negative number stays as it is. -/
theorem wrapped_at (n : BitVec 32) (w : IVec S4x4096 32) (b : Fin 4) (i : Fin 4096) (h : (w (ix2 b i)).toNat < 2 ^ 31) :
    wrapped n w (ix2 b i) = w (ix2 b i) := by
  pointwise [wrapped]
  have hc : IntOp.cmpi .slt (w (ix2 b i)) 0#32 = 0#1 := ValueIdx.eq_zero_of_ne_one fun h1 => by
    rw [StableHlo.Predicate.slt_iff_toNat h (by decide)] at h1
    simp at h1
  rw [hc]
  rfl

/-- A word from 0 to `n` is within. -/
theorem within_at (n : BitVec 32) (w : IVec S4x4096x1 32) (b : Fin 4) (i : Fin 4096) (hn : n.toNat < 2 ^ 31)
    (h : (w (ix3 b i 0)).toNat ≤ n.toNat) : within n w (ix2 b i) = 1#1 := by
  pointwise [within]
  have h1 : IntOp.cmpi .sge (w (ix3 b i 0)) 0#32 = 1#1 :=
    (StableHlo.Predicate.sge_iff_toNat (by omega) (by decide)).2 (by simp)
  have h2 : IntOp.cmpi .sle (w (ix3 b i 0)) n = 1#1 := (StableHlo.Predicate.sle_iff_toNat (by omega) hn).2 h
  rw [Finset.univ_unique, Finset.fold_singleton]
  show IntOp.andi (IntOp.andi (IntOp.cmpi .sge (w (ix3 b i 0)) 0#32) (IntOp.cmpi .sle (w (ix3 b i 0)) n)) 1#1 = 1#1
  rw [h1, h2]
  rfl

/-- Each row's least entry. -/
theorem lows_at (r : FVec Ideal S4x4096 .f32) (b : Fin 4) : lows r (ix2 b 0) = Loss.least (fun i => r (ix2 b i)) := by
  pointwise [lows]
  rw [Consts.top_word]
  rfl

/-- Each row's greatest entry. -/
theorem highs_at (r : FVec Ideal S4x4096 .f32) (b : Fin 4) : highs r (ix2 b 0) = Loss.greatest (fun i => r (ix2 b i)) := by
  pointwise [highs]
  rw [Consts.bot_word]
  rfl

/-- The bin of each entry. -/
theorem bins_at (r : FVec Ideal S4x4096 .f32) (b : Fin 4) (i : Fin 4096) :
    bins r (ix2 b i) = Loss.binOf (fun i => r (ix2 b i)) i := by
  have hl := lows_at r b
  have hh := highs_at r b
  unfold bins Loss.binOf Bins.bin Bins.scale
  rw [← hl, ← hh]
  generalize lows r = l
  generalize highs r = h
  pointwise [binned, scales]

/-- Whether an entry's bin is lower than another's. -/
theorem below_at (q : FVec Ideal S4x4096 .f32) (b : Fin 4) (i j : Fin 4096) :
    below q (ix3 b i j) = BitVec.ofBool (decide (q (ix2 b j) < q (ix2 b i))) := by
  pointwise [below]

/-- The number of entries in a lower bin. -/
theorem ranks_at (q : FVec Ideal S4x4096 .f32) (b : Fin 4) (i : Fin 4096) :
    ranks q (ix2 b i) = BitVec.ofNat 32 (Bins.rank (fun i => q (ix2 b i)) i) := by
  pointwise [ranks]
  rw [IndicatorCount.fold_addi_setWidth_eq_card]
  unfold Bins.rank
  simp only [below_at, StableHlo.Predicate.ofBool_eq_one_iff, decide_eq_true_eq]

/-- A small word as an extended real. -/
theorem small (n : ℕ) (h : n < 2 ^ 31) : FloatOps.sitofp (F := Ideal) .f32 (BitVec.ofNat 32 n) = ((n : ℕ) : EReal) := by
  show (((BitVec.ofNat 32 n).toInt : ℝ) : EReal) = _
  rw [StableHlo.Predicate.toInt_ofNat_small n h]
  simp

/-- The quantile of a small rank. -/
theorem quantiles_at (w : IVec S4x4096 32) (b : Fin 4) (i : Fin 4096) (n : ℕ) (hn : n < 4096) (h : w (ix2 b i) = BitVec.ofNat 32 n) :
    (quantiles w : FVec Ideal S4x4096 .f32) (ix2 b i) = Loss.quantile n := by
  pointwise [quantiles]
  have e : IntOp.addi (BitVec.ofNat 32 n) 1#32 = BitVec.ofNat 32 (n + 1) := by
    apply BitVec.eq_of_toNat_eq
    simp [IntOp.addi]
  rw [h, e, small _ (by omega), Consts.w4096_word, Ideal.div_coe (by norm_num)]
  unfold Loss.quantile
  push_cast
  rfl

/-- A bit as an extended real. -/
theorem bit (p : Bool) : FloatOps.uitofp (F := Ideal) .f32 (BitVec.ofBool p) = if p then 1 else 0 := by
  show (((BitVec.ofBool p).toNat : ℝ) : EReal) = _
  cases p <;> simp

/-- The loss of one error at its quantile. -/
theorem losses_at (u τ : FVec Ideal S4x4096 .f32) (b : Fin 4) (i : Fin 4096) :
    losses u (Host.absf u) (weights u τ) (ix2 b i) = Loss.huber (u (ix2 b i)) (τ (ix2 b i)) := by
  have hk : Ideal.div ((2 : ℝ) : EReal) ((1000 : ℝ) : EReal) = ((1 / 500 : ℝ) : EReal) := by
    rw [Ideal.div_coe (by norm_num), ← EReal.coe_mul]
    norm_num
  have h2 : ((2 : ℝ) : EReal) * ((1 / 500 : ℝ) : EReal) = ((1 / 250 : ℝ) : EReal) := by
    rw [← EReal.coe_mul]
    norm_num
  have h3 : ((1 / 2 : ℝ) : EReal) * ((1 / 500 : ℝ) : EReal) = ((1 / 1000 : ℝ) : EReal) := by
    rw [← EReal.coe_mul]
    norm_num
  have hw : weights u τ (ix2 b i)
      = max (τ (ix2 b i) - (if u (ix2 b i) ≤ 0 then 1 else 0)) (-(τ (ix2 b i) - (if u (ix2 b i) ≤ 0 then 1 else 0))) := by
    pointwise [weights]
    simp only [bit, decide_eq_true_eq]
    rfl
  have ha : Host.absf u (ix2 b i) = max (u (ix2 b i)) (-u (ix2 b i)) := rfl
  generalize weights u τ = n at hw
  generalize Host.absf u = a at ha
  pointwise [losses, kappa]
  rw [Consts.w2_word, Consts.w1000_word, Consts.half_word, hk, h2, h3, Ideal.div_coe (by norm_num), hw, ha]
  unfold Loss.huber
  norm_num

/-- The mean over all the entries. -/
theorem average_at (l : FVec Ideal S4x4096 .f32) :
    average l (ix2 0 0) = (∑ b : Fin 4, ∑ i : Fin 4096, l (ix2 b i)) * ((1 / 16384 : ℝ) : EReal) := by
  pointwise [average]
  rw [Consts.w16384_word, Ideal.div_coe (by norm_num)]

/-- The mean loss of errors at quantiles. -/
theorem lossOf_eq (u τ : FVec Ideal S4x4096 .f32) :
    lossOf u τ = fun _ => (∑ b : Fin 4, ∑ i : Fin 4096, Loss.huber (u (ix2 b i)) (τ (ix2 b i))) * ((1 / 16384 : ℝ) : EReal) := by
  funext j
  obtain rfl : j = ix2 0 0 := by
    funext c
    match c with
    | ⟨0, _⟩ => exact Subsingleton.elim (α := Fin 1) _ _
    | ⟨1, _⟩ => exact Subsingleton.elim (α := Fin 1) _ _
  unfold lossOf
  rw [average_at]
  simp only [losses_at]

end Cert.Pieces

end
-- ==== Proof.Gathers.lean ====
module

public import proofs.«01_k».proof.Proof.PiecesValue

@[expose] public section

set_option maxRecDepth 16384

noncomputable section

/-! What the references take: rates at the neurons' numbers, targets at the ranks. -/

namespace Cert.Pieces

open Idealize.ShloMosaic Cert.BinnedIdeal Cert.BinnedIdeal.Gen

/-- An index among the rates, read from the words. -/
theorem gather_ids (v : FVec Ideal S16384 .f32) (w : IVec S4x4096x1 32) (b : Fin 4) (i : Fin 4096) (n : Fin 16384)
    (h : w (ix3 b i 0) = BitVec.ofNat 32 n.val) : Host.gather gather_S16384_S4x4096x1_S4x4096_n_0_n_n_0_2_1 v w (ix2 b i) = v (ix1 n) := by
  refine (ValueIdx.gather_take_apply (by omega) (gather_S16384_S4x4096x1_S4x4096_n_0_n_n_0_2_1).wf v w (ix2 b i)).trans ?_
  refine congrArg (fun k => v (ix1 k)) (Fin.ext ?_)
  have e : ValueIdx.takeIdx (ix2 b i) = ix3 b i 0 := by
    funext c
    match c with
    | ⟨0, _⟩ => rfl
    | ⟨1, _⟩ => rfl
    | ⟨2, _⟩ => rfl
  show min (w (ValueIdx.takeIdx (ix2 b i))).toInt.toNat (16384 - 1) = n.val
  have hn := n.isLt
  rw [e, h, StableHlo.Predicate.toInt_ofNat_small _ (by omega)]
  omega

/-- An index among the targets of the same row, read from the words. -/
theorem gather_ranks (t : FVec Ideal S4x4096 .f32) (w : IVec S4x4096x1 32) (b : Fin 4) (i : Fin 4096) (n : Fin 4096)
    (h : w (ix3 b i 0) = BitVec.ofNat 32 n.val) :
    Host.gather gather_S4x4096_S4x4096x1_S4x4096_n_1_0_0_1_2_11 t w (ix2 b i) = t (ix2 b n) := by
  have hn := n.isLt
  have hb : ∀ a : Fin 2, GatherDims.start gather_S4x4096_S4x4096x1_S4x4096_n_1_0_0_1_2_11 (ix2 b i) w a
      + GatherDims.batchCoord gather_S4x4096_S4x4096x1_S4x4096_n_1_0_0_1_2_11 (ix2 b i) a
      + GatherDims.offCoord gather_S4x4096_S4x4096x1_S4x4096_n_1_0_0_1_2_11 (ix2 b i) a = ((ix2 b n : S4x4096.Idx) a).val := by
    intro a
    have off : GatherDims.offCoord gather_S4x4096_S4x4096x1_S4x4096_n_1_0_0_1_2_11 (ix2 b i) a = 0 :=
      GatherDims.offCoord_eq_zero _ _ _ (by fin_cases a <;> decide)
    rw [off, Nat.add_zero]
    match a with
    | ⟨0, h0⟩ =>
      rw [GatherDims.start_batching _ _ _ _ (List.mem_singleton.mpr rfl), Nat.zero_add]
      unfold GatherDims.batchCoord
      rw [dif_pos (show (⟨0, h0⟩ : Fin 2) ∈ gather_S4x4096_S4x4096x1_S4x4096_n_1_0_0_1_2_11.operandBatchingDims from List.mem_singleton.mpr rfl)]
      rfl
    | ⟨1, h1⟩ =>
      rw [GatherDims.batchCoord_eq_zero _ _ _ (show (1 : Fin 2) ∉ ([0] : List (Fin 2)) by decide), Nat.add_zero]
      unfold GatherDims.start
      rw [dif_pos (show (⟨1, h1⟩ : Fin 2) ∈ gather_S4x4096_S4x4096x1_S4x4096_n_1_0_0_1_2_11.startIndexMap from List.mem_singleton.mpr rfl)]
      have e : ∀ j, w (GatherDims.siIdx gather_S4x4096_S4x4096x1_S4x4096_n_1_0_0_1_2_11 (ix2 b i) j) = BitVec.ofNat 32 n.val := fun j => by
        rw [← h]
        refine congrArg w ?_
        obtain rfl : j = ⟨0, by decide⟩ := Fin.ext (Nat.lt_one_iff.mp j.isLt)
        funext c
        refine Fin.ext ?_
        match c with
        | ⟨0, _⟩ => rfl
        | ⟨1, _⟩ => rfl
        | ⟨2, _⟩ => rfl
      rw [e, StableHlo.Predicate.toInt_ofNat_small _ (by omega)]
      show min _ (4096 - 1) = n.val
      omega
  unfold Host.gather
  exact congrArg t (funext fun a => Fin.ext (hb a))

/-- Taking the rate of neuron `n`. -/
theorem taken_at (v : FVec Ideal S16384 .f32) (ids : IVec S4x4096 32) (b : Fin 4) (i : Fin 4096) (n : Fin 16384)
    (h : ids (ix2 b i) = BitVec.ofNat 32 n.val) : taken v ids (ix2 b i) = v (ix1 n) := by
  have hn := n.isLt
  have hw : wrapped 16384#32 ids (ix2 b i) = BitVec.ofNat 32 n.val := by
    rw [wrapped_at _ _ _ _ (by rw [h, BitVec.toNat_ofNat]; omega), h]
  have hs : broadcastInDim S4x4096x1 ![0, 1] bcast_S4x4096_S4x4096x1_0_1 (wrapped 16384#32 ids) (ix3 b i 0) = BitVec.ofNat 32 n.val := by
    rw [← hw]
    generalize wrapped 16384#32 ids = w
    pointwise
  unfold taken
  show Scalar.select (within _ _ (ix2 b i)) (Host.gather _ _ _ (ix2 b i)) _ = _
  rw [within_at _ _ _ _ (by decide) (by rw [hs]; show _ ≤ 16383; rw [BitVec.toNat_ofNat]; omega), ValueIdx.select_one, gather_ids _ _ _ _ n hs]

/-- Taking the target of rank `n`. -/
theorem matched_at (t : FVec Ideal S4x4096 .f32) (w : IVec S4x4096 32) (b : Fin 4) (i : Fin 4096) (n : Fin 4096)
    (h : w (ix2 b i) = BitVec.ofNat 32 n.val) : matched t w (ix2 b i) = t (ix2 b n) := by
  have hn := n.isLt
  have hw : wrapped 4096#32 w (ix2 b i) = BitVec.ofNat 32 n.val := by
    rw [wrapped_at _ _ _ _ (by rw [h, BitVec.toNat_ofNat]; omega), h]
  have hs : shapeCast S4x4096x1 (wrapped 4096#32 w) shapeCasts_S4x4096_S4x4096x1 (ix3 b i 0) = BitVec.ofNat 32 n.val := by
    rw [← hw]
    generalize wrapped 4096#32 w = w
    pointwise
  unfold matched
  show Scalar.select (within _ _ (ix2 b i)) (Host.gather _ _ _ (ix2 b i)) _ = _
  rw [within_at _ _ _ _ (by decide) (by rw [hs]; show _ ≤ 4095; rw [BitVec.toNat_ofNat]; omega), ValueIdx.select_one, gather_ranks _ _ _ _ n hs]

/-- The neurons' numbers, in order, take each type's rates. -/
theorem rates_at (x : FVec Ideal S4x512x16384 .f32) (ids : IVec S4x4096 32)
    (h : ∀ (b : Fin 4) (i : Fin 4096), ids (ix2 b i) = BitVec.ofNat 32 (Spec.neuron b i).val) (b : Fin 4) (i : Fin 4096) :
    taken (means x) ids (ix2 b i) = Spec.rates (fun a b k => x (ix3 a b k)) b i := by
  rw [taken_at _ _ _ _ _ (h b i), means_at]
  rfl

/-- The loss by bins, of rates in the neurons' order and targets on a line. -/
theorem binnedLoss_eq (x : FVec Ideal S4x512x16384 .f32) (t r : FVec Ideal S4x4096 .f32)
    (hr : ∀ (b : Fin 4) (i : Fin 4096), r (ix2 b i) = Spec.rates (fun a b k => x (ix3 a b k)) b i)
    (ht : ∀ (b : Fin 4) (k : Fin 4096), t (ix2 b k) = Loss.line (t (ix2 b 0)) (t (ix2 b 4095)) k.val) :
    binnedLoss r t (ranks (bins r)) = fun _ => Spec.loss (fun a b k => x (ix3 a b k)) (fun b k => t (ix2 b k)) := by
  have hrow : ∀ b : Fin 4, (fun i => r (ix2 b i)) = Spec.rates (fun a b k => x (ix3 a b k)) b := fun b => funext (hr b)
  have hw : ∀ (b : Fin 4) (i : Fin 4096), ranks (bins r) (ix2 b i)
      = BitVec.ofNat 32 (Loss.rankOf (Spec.rates (fun a b k => x (ix3 a b k)) b) i) := fun b i => by
    rw [ranks_at]
    simp only [bins_at, hrow]
    rfl
  have hlt : ∀ (b : Fin 4) (i : Fin 4096), Loss.rankOf (Spec.rates (fun a b k => x (ix3 a b k)) b) i < 4096 :=
    fun b i => Bins.rank_lt _ _
  have hu : ∀ (b : Fin 4) (i : Fin 4096), subf r (matched t (ranks (bins r))) (ix2 b i)
      = r (ix2 b i) - matched t (ranks (bins r)) (ix2 b i) := fun _ _ => rfl
  unfold binnedLoss
  rw [lossOf_eq]
  unfold Spec.loss Loss.block
  refine funext fun _ => congrArg (fun s : EReal => s * ((1 / 16384 : ℝ) : EReal)) ?_
  refine Finset.sum_congr rfl fun b _ => Finset.sum_congr rfl fun i _ => ?_
  rw [hu, quantiles_at _ _ _ _ (hlt b i) (hw b i), matched_at _ _ _ _ ⟨_, hlt b i⟩ (hw b i), hr, ht]

end Cert.Pieces

end
-- ==== Proof.Preconditions.lean ====
module

public import proofs.«01_k».proof.Proof.Gathers
public import proofs.«01_k».proof.Proof.Gen.Pre_consecutive_linear
public import proofs.«01_k».proof.Proof.Gen.Pre_one_per_bin

@[expose] public section

set_option maxRecDepth 16384

noncomputable section

/-! What the preconditions say, in plain terms. -/

namespace Cert.Pieces

open Idealize.ShloMosaic Cert.BinnedIdeal Cert.BinnedIdeal.Gen

variable {F : FTy → Type} [FloatOps F]

/-- The number of each neuron, counted through the four types. -/
def numbers : IVec S4x4096 32 :=
  addi (muli (broadcastInDim S4x4096 ![] bcast_S_S4x4096 (constantI S_ 32 4096#32)) (iotaInDim S4x4096 32 0)) (iotaInDim S4x4096 32 1)

/-- The points of a line through the first and the last entry of each row. -/
def lines (first last : FVec F S4x1 .f32) : FVec F S4x4096 .f32 :=
  addf (broadcastInDim S4x4096 ![0, 1] bcast_S4x1_S4x4096_0_1 first)
    (mulf (sitofp .f32 (iotaInDim S4x4096 32 1)) (broadcastInDim S4x4096 ![0, 1] bcast_S4x1_S4x4096_0_1
      (Host.divf (subf last first) (broadcastInDim S4x1 ![] Cert.BinnedIdeal.Gen.bcast_S_S4x1 (constant S_ .f32 0x457FF000#32)))))

/-- Where the numbers are consecutive and the targets linear. -/
def regular (ids : IVec S4x4096 32) (t : FVec F S4x4096 .f32) : IVec S4x4096 1 :=
  andi (cmpi .eq ids numbers)
    (cmpf .oeq t (lines (extractStridedSlice S4x1 ![0, 0] t Cert.Pre_consecutive_linear.Gen.slices_S4x4096_S4x1_0_0)
      (extractStridedSlice S4x1 ![0, 4095] t Cert.Pre_consecutive_linear.Gen.slices_S4x4096_S4x1_0_4095)))

/-- Where two bins of a row differ, or are one neuron's. -/
def apart (q : FVec F S4x4096 .f32) : IVec S4x4096x4096 1 :=
  ori (cmpf .une
      (broadcastInDim S4x4096x4096 ![0, 1, 2] bcast_S4x4096x1_S4x4096x4096_0_1_2 (broadcastInDim S4x4096x1 ![0, 1] bcast_S4x4096_S4x4096x1_0_1 q))
      (broadcastInDim S4x4096x4096 ![0, 1, 2] bcast_S4x1x4096_S4x4096x4096_0_1_2 (broadcastInDim S4x1x4096 ![0, 2] bcast_S4x4096_S4x1x4096_0_2 q)))
    (cmpi .eq (iotaInDim S4x4096x4096 32 1) (iotaInDim S4x4096x4096 32 2))

/-- The neurons' rates in their order, as four rows. -/
def rows (x : FVec F S4x512x16384 .f32) : FVec F S4x4096 .f32 := shapeCast S4x4096 (means x) Cert.Pre_one_per_bin.Gen.shapeCasts_S16384_S4x4096

/-- A matrix of truths, held against every pair of a row. -/
def spread (p : IVec S4x4096 1) : IVec S4x4096x4096 1 :=
  broadcastInDim S4x4096x4096 ![0, 1, 2] bcast_S4x4096x1_S4x4096x4096_0_1_2 (broadcastInDim S4x4096x1 ![0, 1] bcast_S4x4096_S4x4096x1_0_1 p)

/-- The first precondition, by its pieces. -/
theorem consecutive_linear_eq (x : FVec F S4x512x16384 .f32) (n0 n1 n2 n3 : IVec S4096 32) (t0 t1 t2 t3 : FVec F S4096 .f32) :
    Cert.Pre_consecutive_linear.fn (F := F) x n0 n1 n2 n3 t0 t1 t2 t3 = regular (stack n0 n1 n2 n3) (stack t0 t1 t2 t3) := rfl

/-- The second precondition, by its pieces. -/
theorem one_per_bin_eq (x : FVec F S4x512x16384 .f32) (n0 n1 n2 n3 : IVec S4096 32) (t0 t1 t2 t3 : FVec F S4096 .f32) :
    Cert.Pre_one_per_bin.fn (F := F) x n0 n1 n2 n3 t0 t1 t2 t3
      = andi (apart (bins (rows x))) (spread (regular (stack n0 n1 n2 n3) (stack t0 t1 t2 t3))) := rfl

/-- The numbers, entry by entry. -/
theorem numbers_at (b : Fin 4) (i : Fin 4096) : numbers (ix2 b i) = BitVec.ofNat 32 (Spec.neuron b i).val := by
  pointwise [numbers]
  have hb := b.isLt
  have hi := i.isLt
  apply BitVec.eq_of_toNat_eq
  simp only [IntOp.addi, IntOp.muli, Spec.neuron, BitVec.toNat_add, BitVec.toNat_mul, BitVec.toNat_ofNat]
  omega

/-- The points of a line, entry by entry. -/
theorem lines_at (a z : FVec Ideal S4x1 .f32) (b : Fin 4) (i : Fin 4096) :
    lines a z (ix2 b i) = Loss.line (a (ix2 b 0)) (z (ix2 b 0)) i.val := by
  have hi := i.isLt
  pointwise [lines]
  rw [small _ (by omega), Consts.w4095_word, Ideal.div_coe (by norm_num)]
  rfl

/-- The first entry of a row. -/
theorem first_at (t : FVec Ideal S4x4096 .f32) (b : Fin 4) :
    extractStridedSlice S4x1 ![0, 0] t Cert.Pre_consecutive_linear.Gen.slices_S4x4096_S4x1_0_0 (ix2 b 0) = t (ix2 b 0) := by
  pointwise

/-- The last entry of a row. -/
theorem last_at (t : FVec Ideal S4x4096 .f32) (b : Fin 4) :
    extractStridedSlice S4x1 ![0, 4095] t Cert.Pre_consecutive_linear.Gen.slices_S4x4096_S4x1_0_4095 (ix2 b 0) = t (ix2 b 4095) := by
  pointwise

/-- Both of two bits that are one together. -/
theorem both {p q : BitVec 1} (h : IntOp.andi p q = 1#1) : p = 1#1 ∧ q = 1#1 := by
  revert p q
  decide

/-- What regular numbers and targets are. -/
theorem regular_at (ids : IVec S4x4096 32) (t : FVec Ideal S4x4096 .f32) (b : Fin 4) (i : Fin 4096) (h : regular ids t (ix2 b i) = 1#1) :
    ids (ix2 b i) = BitVec.ofNat 32 (Spec.neuron b i).val
      ∧ t (ix2 b i) = Loss.line (t (ix2 b 0)) (t (ix2 b 4095)) i.val := by
  obtain ⟨h1, h2⟩ := both (p := IntOp.cmpi .eq (ids (ix2 b i)) (numbers (ix2 b i))) h
  rw [StableHlo.Predicate.cmpi_eq_iff, numbers_at] at h1
  refine ⟨h1, ?_⟩
  rw [← first_at t b, ← last_at t b, ← lines_at]
  exact of_decide_eq_true ((StableHlo.Predicate.ofBool_eq_one_iff _).1 h2)

/-- What two neurons apart are. -/
theorem apart_at (q : FVec Ideal S4x4096 .f32) (b : Fin 4) (i j : Fin 4096) (h : apart q (ix3 b i j) = 1#1)
    (hq : q (ix2 b i) = q (ix2 b j)) : i = j := by
  have e : apart q (ix3 b i j) = IntOp.ori (BitVec.ofBool (decide (q (ix2 b i) ≠ q (ix2 b j))))
      (IntOp.cmpi .eq (BitVec.ofNat 32 i.val) (BitVec.ofNat 32 j.val)) := by
    pointwise [apart]
  rw [e, decide_eq_false (not_not_intro hq)] at h
  have h1 : IntOp.cmpi .eq (BitVec.ofNat 32 i.val) (BitVec.ofNat 32 j.val) = 1#1 := by
    revert h
    generalize IntOp.cmpi .eq (BitVec.ofNat 32 i.val) (BitVec.ofNat 32 j.val) = p
    revert p
    decide
  rw [StableHlo.Predicate.cmpi_eq_iff] at h1
  have h2 := congrArg BitVec.toNat h1
  have hi := i.isLt
  have hj := j.isLt
  simp only [BitVec.toNat_ofNat] at h2
  exact Fin.ext (by omega)

/-- The truths, held against every pair. -/
theorem spread_at (p : IVec S4x4096 1) (b : Fin 4) (i j : Fin 4096) : spread p (ix3 b i j) = p (ix2 b i) := by
  pointwise [spread]

/-- The rates as four rows. -/
theorem rows_at (x : FVec Ideal S4x512x16384 .f32) (b : Fin 4) (i : Fin 4096) :
    rows x (ix2 b i) = Spec.rates (fun a b k => x (ix3 a b k)) b i := by
  have e : rows x (ix2 b i) = means x (ix1 (Spec.neuron b i)) := by
    unfold rows
    generalize means x = m
    pointwise
    refine congrArg (fun k => m (ix1 k)) (Fin.ext ?_)
    show b.val * 4096 + i.val = 4096 * b.val + i.val
    omega
  rw [e, means_at]
  rfl

/-- What the first precondition says. -/
theorem consecutive_linear (x : FVec Ideal S4x512x16384 .f32) (n0 n1 n2 n3 : IVec S4096 32) (t0 t1 t2 t3 : FVec Ideal S4096 .f32)
    (h : Cert.Pre_consecutive_linear.fn (F := Ideal) x n0 n1 n2 n3 t0 t1 t2 t3 = fun _ => 1#1) (b : Fin 4) (i : Fin 4096) :
    stack n0 n1 n2 n3 (ix2 b i) = BitVec.ofNat 32 (Spec.neuron b i).val
      ∧ stack t0 t1 t2 t3 (ix2 b i) = Loss.line (stack t0 t1 t2 t3 (ix2 b 0)) (stack t0 t1 t2 t3 (ix2 b 4095)) i.val :=
  regular_at _ _ b i (congrFun ((consecutive_linear_eq x n0 n1 n2 n3 t0 t1 t2 t3).symm.trans h) (ix2 b i))

/-- What the second precondition says: the first one, and that two neurons of a type have two bins. -/
theorem one_per_bin (x : FVec Ideal S4x512x16384 .f32) (n0 n1 n2 n3 : IVec S4096 32) (t0 t1 t2 t3 : FVec Ideal S4096 .f32)
    (h : Cert.Pre_one_per_bin.fn (F := Ideal) x n0 n1 n2 n3 t0 t1 t2 t3 = fun _ => 1#1) (b : Fin 4) :
    (∀ i : Fin 4096, stack n0 n1 n2 n3 (ix2 b i) = BitVec.ofNat 32 (Spec.neuron b i).val
      ∧ stack t0 t1 t2 t3 (ix2 b i) = Loss.line (stack t0 t1 t2 t3 (ix2 b 0)) (stack t0 t1 t2 t3 (ix2 b 4095)) i.val)
      ∧ Function.Injective (Loss.binOf (Spec.rates (fun a b k => x (ix3 a b k)) b)) := by
  have hp : ∀ i j : Fin 4096, apart (bins (rows x)) (ix3 b i j) = 1#1
      ∧ spread (regular (stack n0 n1 n2 n3) (stack t0 t1 t2 t3)) (ix3 b i j) = 1#1 := fun i j =>
    both (congrFun ((one_per_bin_eq x n0 n1 n2 n3 t0 t1 t2 t3).symm.trans h) (ix3 b i j))
  refine ⟨fun i => regular_at _ _ b i ((spread_at _ b i i).symm.trans (hp i i).2), fun i j hij => apart_at _ b i j (hp i j).1 ?_⟩
  · have hr : (fun i => rows x (ix2 b i)) = Spec.rates (fun a b k => x (ix3 a b k)) b := funext (rows_at x b)
    rw [bins_at, bins_at, hr, hij]

end Cert.Pieces

end
-- ==== Proof.BinnedValue.lean ====
module

public import proofs.«01_k».proof.Proof.Gathers
public import proofs.«01_k».proof.Proof.Gen.BinnedIdeal.Run

@[expose] public section

set_option maxRecDepth 16384

noncomputable section

/-! What the binned reference leaves. -/

namespace Cert.BinnedIdeal.Whole

open Idealize.ShloMosaic Idealize.ShloMosaic.TcCoe Idealize.SL.Sem Idealize.ShloMosaic.StableHlo Cert.BinnedIdeal Cert.BinnedIdeal.Gen
open Cert.BinnedIdeal.Value

variable {F : FTy → Type} [FloatOps F]

/-- The stacked numbers. -/
abbrev ids (m : (ℓ : Loc nD τ sig) → Buf (Elt F) ℓ) (c : Dev nD) : IVec S4x4096 32 :=
  Pieces.stack (m ((c : Thread nD τ).loc main_arg1)) (m ((c : Thread nD τ).loc main_arg2)) (m ((c : Thread nD τ).loc main_arg3))
    (m ((c : Thread nD τ).loc main_arg4))

/-- The stacked targets. -/
abbrev targets (m : (ℓ : Loc nD τ sig) → Buf (Elt F) ℓ) (c : Dev nD) : FVec F S4x4096 .f32 :=
  Pieces.stack (m ((c : Thread nD τ).loc main_arg5)) (m ((c : Thread nD τ).loc main_arg6)) (m ((c : Thread nD τ).loc main_arg7))
    (m ((c : Thread nD τ).loc main_arg8))

/-- The rates taken at the numbers. -/
abbrev rates (m : (ℓ : Loc nD τ sig) → Buf (Elt F) ℓ) (c : Dev nD) : FVec F S4x4096 .f32 :=
  Pieces.taken (Pieces.means (m ((c : Thread nD τ).loc main_arg0))) (ids m c)

/-- The binned reference's run, its result by its pieces and its arguments unchanged. -/
theorem result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Pieces.binnedLoss (rates m c) (targets m c) (Pieces.ranks (Pieces.bins (rates m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ

end Cert.BinnedIdeal.Whole

end
-- ==== Proof.Order.lean ====
module

public import proofs.«01_k».proof.Proof.Loss

@[expose] public section

noncomputable section

/-! Where no two rates share a bin, the rank by bins is the place in the sorted order. -/

namespace Cert.Loss

open Finset

variable {n : ℕ} (r : Fin n → EReal) (σ : Fin n → Fin n)

/-- Along the sorted order the bins strictly increase. -/
theorem bins_strictMono (hσ : Function.Injective σ) (hs : ∀ i j, i < j → r (σ i) ≤ r (σ j)) (hq : Function.Injective (binOf r)) :
    StrictMono fun k => binOf r (σ k) := fun i j hij =>
  lt_of_le_of_ne (Bins.bin_mono _ _ (hs i j hij)) fun h => hij.ne (hσ (hq h))

/-- The rank of the rate at place `k` is `k`. -/
theorem rank_sorted (hσ : Function.Bijective σ) (hs : ∀ i j, i < j → r (σ i) ≤ r (σ j)) (hq : Function.Injective (binOf r)) (k : Fin n) :
    rankOf r (σ k) = k.val := by
  have hm := bins_strictMono r σ hσ.1 hs hq
  have he : ({j | binOf r j < binOf r (σ k)} : Finset (Fin n)) = (Finset.Iio k).map ⟨σ, hσ.1⟩ := by
    ext j
    obtain ⟨i, rfl⟩ := hσ.2 j
    simp only [mem_filter, mem_univ, true_and, mem_map, mem_Iio, Function.Embedding.coeFn_mk]
    constructor
    · exact fun h => ⟨i, hm.lt_iff_lt.1 h, rfl⟩
    · rintro ⟨l, hl, e⟩
      rw [← e]
      exact hm hl
  unfold rankOf Bins.rank
  rw [he, card_map, Fin.card_Iio]

/-- The loss of a block, summed in the sorted order. -/
theorem block_sorted (r : Fin 4096 → EReal) (σ : Fin 4096 → Fin 4096) (hσ : Function.Bijective σ)
    (hs : ∀ i j, i < j → r (σ i) ≤ r (σ j)) (hq : Function.Injective (binOf r)) (target : ℕ → EReal) :
    ∑ k : Fin 4096, huber (r (σ k) - target k.val) (quantile k.val) = block r target := by
  unfold block
  rw [← (Equiv.ofBijective σ hσ).sum_comp fun i => huber (r i - target (rankOf r i)) (quantile (rankOf r i))]
  refine sum_congr rfl fun k _ => ?_
  show _ = huber (r (σ k) - target (rankOf r (σ k))) (quantile (rankOf r (σ k)))
  rw [rank_sorted r σ hσ hs hq]

end Cert.Loss

end
-- ==== Proof.SortedValue.lean ====
module

public import proofs.«01_k».proof.Proof.Order
public import proofs.«01_k».proof.Proof.Gathers
public import proofs.«01_k».proof.Proof.Gen.ReferenceIdeal.Run
public import Idealize.ShloMosaic.Lib.SortFacts

@[expose] public section

set_option maxRecDepth 16384

noncomputable section

/-! What the reference leaves: the loss of the sorted rates. -/

namespace Cert.ReferenceIdeal.Whole

open Idealize.ShloMosaic Idealize.ShloMosaic.TcCoe Idealize.SL.Sem Cert.ReferenceIdeal Cert.ReferenceIdeal.Gen

variable {F : FTy → Type} [FloatOps F]

/-- The quantiles of the places 0 to 4095, the same for each type. -/
def quantiles : FVec F S4x4096 .f32 :=
  broadcastInDim S4x4096 ![0, 1] bcast_S1x4096_S4x4096_0_1 (broadcastInDim S1x4096 ![1] bcast_S4096_S1x4096_1
    (Host.divf (sitofp .f32 (addi (iotaInDim S4096 32 0) (broadcastInDim S4096 ![] bcast_S_S4096 (constantI S_ 32 1#32))))
      (broadcastInDim S4096 ![] bcast_S_S4096 (constant S_ .f32 0x45800000#32))))

/-- The rows, each sorted. -/
def sorted (r : FVec F S4x4096 .f32) : FVec F S4x4096 .f32 := Host.sort S4x4096 1 comparator_f32_d1 r

/-- The stacked numbers. -/
abbrev ids (m : (ℓ : Loc nD τ sig) → Buf (Elt F) ℓ) (c : Dev nD) : IVec S4x4096 32 :=
  Pieces.stack (m ((c : Thread nD τ).loc main_arg1)) (m ((c : Thread nD τ).loc main_arg2)) (m ((c : Thread nD τ).loc main_arg3))
    (m ((c : Thread nD τ).loc main_arg4))

/-- The stacked targets. -/
abbrev targets (m : (ℓ : Loc nD τ sig) → Buf (Elt F) ℓ) (c : Dev nD) : FVec F S4x4096 .f32 :=
  Pieces.stack (m ((c : Thread nD τ).loc main_arg5)) (m ((c : Thread nD τ).loc main_arg6)) (m ((c : Thread nD τ).loc main_arg7))
    (m ((c : Thread nD τ).loc main_arg8))

/-- The rates taken at the numbers. -/
abbrev rates (m : (ℓ : Loc nD τ sig) → Buf (Elt F) ℓ) (c : Dev nD) : FVec F S4x4096 .f32 :=
  Pieces.taken (Pieces.means (m ((c : Thread nD τ).loc main_arg0))) (ids m c)

/-- The reference's result, by its pieces. -/
theorem result (m : (ℓ : Loc nD τ sig) → Buf (Elt F) ℓ) (c : Dev nD) :
    Value.res_main_v45 m c = Pieces.lossOf (subf (sorted (rates m c)) (targets m c)) quantiles := rfl

/-- The quantiles, entry by entry. -/
theorem quantiles_at (b : Fin 4) (k : Fin 4096) : (quantiles : FVec Ideal S4x4096 .f32) (ix2 b k) = Loss.quantile k.val := by
  have hk := k.isLt
  pointwise [quantiles]
  have e : IntOp.addi (BitVec.ofNat 32 k.val) 1#32 = BitVec.ofNat 32 (k.val + 1) := by
    apply BitVec.eq_of_toNat_eq
    simp [IntOp.addi]
  rw [e, Pieces.small _ (by omega), Consts.w4096_word, Ideal.div_coe (by norm_num)]
  unfold Loss.quantile
  push_cast
  rfl

/-- The sort's comparison is that of the extended reals. -/
theorem comparator_eq (l r : EReal) : comparator_f32_d1 (F := Ideal) l r = BitVec.ofBool (decide (l < r)) := by
  have key (x : Ideal .f32) : Scalar.select (FloatOps.cmpf (F := Ideal) (φ := .f32) .une x x) (FloatOps.ofBits .f32 0x7FC00000#32)
      (Scalar.select (FloatOps.cmpf (F := Ideal) (φ := .f32) .oeq x (FloatOps.ofBits .f32 0x00000000#32)) (FloatOps.ofBits .f32 0x00000000#32) x) = x := by
    have h1 : FloatOps.cmpf (F := Ideal) (φ := .f32) .une x x = 0#1 := by
      show BitVec.ofBool (decide (x ≠ x)) = 0#1
      simp
    rw [h1, ValueIdx.select_zero]
    have h2 : FloatOps.cmpf (F := Ideal) (φ := .f32) .oeq x (FloatOps.ofBits .f32 0x00000000#32)
        = BitVec.ofBool (decide (x = Ideal.ofBits .f32 0x00000000#32)) := rfl
    rw [h2]
    by_cases h : x = Ideal.ofBits .f32 0x00000000#32
    · rw [decide_eq_true h]
      exact h.symm
    · rw [decide_eq_false h]
      rfl
  unfold comparator_f32_d1
  dsimp only
  rw [key l, key r]
  rfl

/-- Sorting permutes each row into increasing order. -/
theorem sorted_at (r : FVec Ideal S4x4096 .f32) (b : Fin 4) :
    ∃ σ : Fin 4096 → Fin 4096, Function.Bijective σ ∧ (∀ i j, i < j → r (ix2 b (σ i)) ≤ r (ix2 b (σ j)))
      ∧ ∀ k, sorted r (ix2 b k) = r (ix2 b (σ k)) := by
  have along (j k : Fin 4096) : Shape.Idx.along (s := S4x4096) (ix2 b j) 1 k = ix2 b k := by
    funext c
    match c with
    | ⟨0, _⟩ => rfl
    | ⟨1, _⟩ => rfl
  let f : Fin 4096 → EReal := fun k => r (ix2 b k)
  let R : Fin 4096 → Fin 4096 → Bool := fun k k' => BitVec.ofBool (decide (f k < f k')) == 1#1
  have hR : ∀ k k', R k k' = true ↔ f k < f k' := fun k k' => by
    show (BitVec.ofBool (decide (f k < f k')) == 1#1) = true ↔ _
    rw [beq_iff_eq, StableHlo.Predicate.ofBool_eq_one_iff, decide_eq_true_eq]
  have hR' : ∀ k k', R k k' = false ↔ f k' ≤ f k := fun k k' => by
    rw [← Bool.not_eq_true, hR, not_lt]
  refine ⟨sortedFrom R, ⟨sortedFrom_injective R, sortedFrom_surjective R⟩, fun i j hij => ?_, fun k => ?_⟩
  · exact (hR' _ _).1 (sortedFrom_noInversion R R (fun a b h => (hR' _ _).2 ((hR _ _).1 h).le) (fun _ _ h => h)
      (fun a b c h1 h2 => (hR' _ _).2 (((hR' _ _).1 h2).trans ((hR' _ _).1 h1))) i j hij)
  · unfold sorted Host.sort
    rw [dif_pos (show 1 < S4x4096.rank by decide)]
    have hf : (fun n n' : Fin 4096 => comparator_f32_d1 (F := Ideal) (r (Shape.Idx.along (s := S4x4096) (ix2 b k) 1 n))
        (r (Shape.Idx.along (s := S4x4096) (ix2 b k) 1 n')) == 1#1) = R := by
      funext n n'
      rw [along, along, comparator_eq]
    show r (Shape.Idx.along (s := S4x4096) (ix2 b k) 1 (sortedFrom (fun n n' : Fin 4096 => comparator_f32_d1 (F := Ideal)
      (r (Shape.Idx.along (s := S4x4096) (ix2 b k) 1 n)) (r (Shape.Idx.along (s := S4x4096) (ix2 b k) 1 n')) == 1#1) k)) = _
    rw [hf]
    exact congrArg r (along k (sortedFrom R k))

/-- The loss of the sorted rates, where the rates are in the neurons' order, the targets on a line, and no two bins the same. -/
theorem loss_eq (x : FVec Ideal S4x512x16384 .f32) (t r : FVec Ideal S4x4096 .f32)
    (hr : ∀ (b : Fin 4) (i : Fin 4096), r (ix2 b i) = Spec.rates (fun a b k => x (ix3 a b k)) b i)
    (ht : ∀ (b : Fin 4) (k : Fin 4096), t (ix2 b k) = Loss.line (t (ix2 b 0)) (t (ix2 b 4095)) k.val)
    (hq : ∀ b : Fin 4, Function.Injective (Loss.binOf (Spec.rates (fun a b k => x (ix3 a b k)) b))) :
    Pieces.lossOf (subf (sorted r) t) quantiles = fun _ => Spec.loss (fun a b k => x (ix3 a b k)) (fun b k => t (ix2 b k)) := by
  have hu : ∀ (b : Fin 4) (k : Fin 4096), subf (sorted r) t (ix2 b k) = sorted r (ix2 b k) - t (ix2 b k) := fun _ _ => rfl
  rw [Pieces.lossOf_eq]
  unfold Spec.loss
  refine funext fun _ => congrArg (fun s : EReal => s * ((1 / 16384 : ℝ) : EReal)) (Finset.sum_congr rfl fun b _ => ?_)
  obtain ⟨σ, hσ, hs, hk⟩ := sorted_at r b
  simp only [hr] at hs
  rw [← Loss.block_sorted (Spec.rates (fun a b k => x (ix3 a b k)) b) σ hσ hs (hq b)]
  refine Finset.sum_congr rfl fun k _ => ?_
  rw [hu, hk, hr, quantiles_at, ← ht]

end Cert.ReferenceIdeal.Whole

end
-- ==== Proof.Equation.lean ====
module

public import proofs.«01_k».proof.Defs
public import proofs.«01_k».proof.Proof.Array
public import proofs.«01_k».proof.Proof.Preconditions
public import proofs.«01_k».proof.Proof.BinnedValue
public import proofs.«01_k».proof.Proof.SortedValue

@[expose] public section

set_option maxRecDepth 16384

noncomputable section

/-! The kernel's result is the references'. -/

namespace Cert.Equation

open Idealize.ShloMosaic Idealize.ShloMosaic.TcCoe Idealize.SL.Sem
open Cert.KernelIdeal.Whole (entries targets)

/-- The stacked targets are the four target vectors. -/
theorem stacked (t0 t1 t2 t3 : FVec Ideal KernelIdeal.S4096 .f32) :
    (fun (b : Fin 4) (k : Fin 4096) => Pieces.stack t0 t1 t2 t3 (ix2 b k)) = targets t0 t1 t2 t3 :=
  funext fun b => funext fun k => Pieces.stack_at t0 t1 t2 t3 b k

/-- The binned reference computes the loss, where the numbers are consecutive and the targets linear. -/
theorem binned (x : FVec Ideal KernelIdeal.S4x512x16384 .f32) (n0 n1 n2 n3 : IVec KernelIdeal.S4096 32) (t0 t1 t2 t3 : FVec Ideal KernelIdeal.S4096 .f32)
    (h : Cert.Pre_consecutive_linear.fn (F := Ideal) x n0 n1 n2 n3 t0 t1 t2 t3 = fun _ => 1#1) :
    Pieces.binnedLoss (Pieces.taken (Pieces.means x) (Pieces.stack n0 n1 n2 n3)) (Pieces.stack t0 t1 t2 t3)
        (Pieces.ranks (Pieces.bins (Pieces.taken (Pieces.means x) (Pieces.stack n0 n1 n2 n3))))
      = fun _ => Spec.loss (entries x) (targets t0 t1 t2 t3) := by
  have hp := Pieces.consecutive_linear x n0 n1 n2 n3 t0 t1 t2 t3 h
  rw [Pieces.binnedLoss_eq x _ _ (Pieces.rates_at x _ fun b i => (hp b i).1) fun b k => (hp b k).2, stacked]
  rfl

/-- The reference computes the loss, where moreover two neurons of a type have two bins. -/
theorem sorted (x : FVec Ideal KernelIdeal.S4x512x16384 .f32) (n0 n1 n2 n3 : IVec KernelIdeal.S4096 32) (t0 t1 t2 t3 : FVec Ideal KernelIdeal.S4096 .f32)
    (h : Cert.Pre_one_per_bin.fn (F := Ideal) x n0 n1 n2 n3 t0 t1 t2 t3 = fun _ => 1#1) :
    Pieces.lossOf (subf (ReferenceIdeal.Whole.sorted (Pieces.taken (Pieces.means x) (Pieces.stack n0 n1 n2 n3))) (Pieces.stack t0 t1 t2 t3))
        ReferenceIdeal.Whole.quantiles
      = fun _ => Spec.loss (entries x) (targets t0 t1 t2 t3) := by
  have hp := Pieces.one_per_bin x n0 n1 n2 n3 t0 t1 t2 t3 h
  rw [ReferenceIdeal.Whole.loss_eq x _ _ (Pieces.rates_at x _ fun b i => ((hp b).1 i).1) (fun b k => ((hp b).1 k).2) fun b => (hp b).2, stacked]
  rfl

/-- The kernel and the binned reference leave the same. -/
theorem algebraic_binned : Cert.algebraic_KernelIdeal_BinnedIdeal_pre_consecutive_linear := by
  intro m g m' g' hp ha
  refine ⟨fun c => KernelIdeal.Value.G2 m c, KernelIdeal.Value.run m g, ?_⟩
  refine (θ_run _ _ _).mono (fun r hr c => ⟨(hr c).1.trans ?_, (hr c).2⟩) (BinnedIdeal.Whole.result (F := Ideal) m' g')
  obtain ⟨a0, a1, a2, a3, a4, a5, a6, a7, a8⟩ := ha c
  unfold BinnedIdeal.Whole.rates BinnedIdeal.Whole.targets BinnedIdeal.Whole.ids
  rw [a0, a1, a2, a3, a4, a5, a6, a7, a8]
  exact (binned _ _ _ _ _ _ _ _ _ (hp c)).trans (KernelIdeal.Whole.result m c).symm

/-- The kernel and the reference leave the same. -/
theorem algebraic_sorted : Cert.algebraic_KernelIdeal_ReferenceIdeal_pre_one_per_bin := by
  intro m g m' g' hp ha
  refine ⟨fun c => KernelIdeal.Value.G2 m c, KernelIdeal.Value.run m g, ?_⟩
  refine (θ_run _ _ _).mono (fun r hr c => ⟨((hr c).1.trans (ReferenceIdeal.Whole.result m' c)).trans ?_, (hr c).2⟩)
    (ReferenceIdeal.Value.run (F := Ideal) m' g')
  obtain ⟨a0, a1, a2, a3, a4, a5, a6, a7, a8⟩ := ha c
  unfold ReferenceIdeal.Whole.rates ReferenceIdeal.Whole.targets ReferenceIdeal.Whole.ids
  rw [a0, a1, a2, a3, a4, a5, a6, a7, a8]
  exact (sorted _ _ _ _ _ _ _ _ _ (hp c)).trans (KernelIdeal.Whole.result m c).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.BinnedIdeal.Run
public import proofs.«01_k».proof.Proof.Gen.Reference.Run
public import proofs.«01_k».proof.Proof.Gen.Binned.Run
public import proofs.«01_k».proof.Proof.Gen.BinnedIdeal
public import proofs.«01_k».proof.Proof.Gen.Reference
public import proofs.«01_k».proof.Proof.Gen.Binned
public import proofs.«01_k».proof.Proof.Gen.Pre_consecutive_linear
public import proofs.«01_k».proof.Proof.Gen.Pre_one_per_bin
public import proofs.«01_k».proof.Proof.Equation
public import Idealize.ShloMosaic.Lib.Quiescent
public import Idealize.ShloMosaic.Lib.Tactic.ValueTie
public import Idealize.ShloMosaic.Adequacy
public import Idealize.ShloMosaic.Init

@[expose] public section

noncomputable section

namespace Cert.Proof

open Idealize.ShloMosaic Idealize.SL.Sem Cert.Kernel

/-- The sorted reference over the extended reals ends quiet, its arguments unchanged. -/
theorem quiet_sorted : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The binned reference over the extended reals ends quiet, its arguments unchanged. -/
theorem quiet_binned : Cert.quiescent_BinnedIdeal := fun m ρ _ =>
  (θ_run Cert.BinnedIdeal.defs _ _).mono (fun r h => ⟨fun c => (h c).2, sem_eq_zero_of_no_sems (by decide) r.2⟩)
    (Cert.BinnedIdeal.Value.run (F := Ideal) m ρ)

/-- The sorted reference as printed ends quiet, its arguments unchanged. -/
theorem quiet_sorted_bits : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The binned reference as printed ends quiet, its arguments unchanged. -/
theorem quiet_binned_bits : Cert.quiescent_Binned := fun m ρ _ =>
  (θ_run Cert.Binned.defs _ _).mono (fun r h => ⟨fun c => (h c).2, sem_eq_zero_of_no_sems (by decide) r.2⟩)
    (Cert.Binned.Value.run (F := Bits) m ρ)

/-- The three constants the ideal kernel names. -/
theorem named : Cert.preserves_Kernel_KernelIdeal :=
  ⟨IdealRules.named_const.statement Cert.KernelIdeal.κ "inv_last" .f32 0x39800801#32 _ rfl,
    IdealRules.named_const.statement Cert.KernelIdeal.κ "kappa" .f32 0x3B03126F#32 _ rfl,
    IdealRules.named_const.statement Cert.KernelIdeal.κ "half_kappa" .f32 0x3A83126F#32 _ rfl⟩

/-- All the claims. -/
theorem claim : Cert.Claim :=
  ⟨Cert.Kernel.Gen.facts, Cert.KernelIdeal.Gen.facts, Cert.ReferenceIdeal.Gen.facts, Cert.BinnedIdeal.Gen.facts, Cert.Reference.Gen.facts,
    Cert.Binned.Gen.facts, Cert.Pre_consecutive_linear.Gen.facts, Cert.Pre_one_per_bin.Gen.facts,
    fun m ρ _ => Cert.Kernel.Gen.frame m ρ, fun m ρ _ => Cert.KernelIdeal.Gen.frame m ρ, fun m ρ _ => Cert.KernelIdeal.Gen.frame m ρ,
    fun m ρ _ => Cert.KernelIdeal.Gen.frame m ρ, quiet_sorted, fun m ρ _ => quiet_sorted m ρ trivial, quiet_binned,
    fun m ρ _ => quiet_binned m ρ trivial, quiet_sorted_bits, quiet_binned_bits, named, trivial, trivial,
    Cert.Equation.algebraic_binned, Cert.Equation.algebraic_sorted⟩

end Cert.Proof

end
